-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v50)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v50) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v9_0)) (v1 : (c : Dev Cert.Kernel7Ideal.nD) → Buf (Elt Ideal) ((c.tc : Thread Cert.Kernel7Ideal.nD Cert.Kernel7Ideal.τ).loc Cert.Kernel7Ideal.main_v9_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_0) = v0 c
          ∧ r.2.mem ((c.tc : Thread Cert.Kernel7Ideal.nD Cert.Kernel7Ideal.τ).loc Cert.Kernel7Ideal.main_v9_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S2x16384x12x128 : Shape := ⟨4, ![2, 16384, 12, 128]⟩
abbrev S_ : Shape := ⟨0, ![]⟩
abbrev S2x16384x12x1x128 : Shape := ⟨5, ![2, 16384, 12, 1, 128]⟩
abbrev S2x16384x12x3x128 : Shape := ⟨5, ![2, 16384, 12, 3, 128]⟩
abbrev S2x16384x3x4x3x128 : Shape := ⟨6, ![2, 16384, 3, 4, 3, 128]⟩
abbrev S2x16384x4x3x3x128 : Shape := ⟨6, ![2, 16384, 4, 3, 3, 128]⟩
abbrev S32768x4608 : Shape := ⟨2, ![32768, 4608]⟩
abbrev S32768x512 : Shape := ⟨2, ![32768, 512]⟩
abbrev S2048x1152 : Shape := ⟨2, ![2048, 1152]⟩
abbrev S2048x128 : Shape := ⟨2, ![2048, 128]⟩
abbrev S2176x128 : Shape := ⟨2, ![2176, 128]⟩
abbrev S2560x128 : Shape := ⟨2, ![2560, 128]⟩
abbrev S4096x128 : Shape := ⟨2, ![4096, 128]⟩
abbrev S3x2048x128 : Shape := ⟨3, ![3, 2048, 128]⟩
abbrev S128x256 : Shape := ⟨2, ![128, 256]⟩
abbrev S256x128 : Shape := ⟨2, ![256, 128]⟩
abbrev S128x128 : Shape := ⟨2, ![128, 128]⟩
abbrev S256x256 : Shape := ⟨2, ![256, 256]⟩
abbrev S128 : Shape := ⟨1, ![128]⟩
abbrev S128x1 : Shape := ⟨2, ![128, 1]⟩
abbrev S1x128x128 : Shape := ⟨3, ![1, 128, 128]⟩
abbrev S512x128 : Shape := ⟨2, ![512, 128]⟩
abbrev S1x2048x128 : Shape := ⟨3, ![1, 2048, 128]⟩

abbrev nBuf : Space → Nat
  | .hbm => 15
  | .vmem => 13
  | .smem => 0
  | _ => 0

abbrev bufTy : (tb : Table) → Fin (tcTables nBuf tb) → BufTy
  | .hbm, ⟨0, _⟩ => ⟨S2x16384x12x128, .f32⟩
  | .hbm, ⟨1, _⟩ => ⟨S2x16384x12x128, .f32⟩
  | .hbm, ⟨2, _⟩ => ⟨S2x16384x12x128, .f32⟩
  | .hbm, ⟨3, _⟩ => ⟨S_, .f32⟩
  | .hbm, ⟨4, _⟩ => ⟨S2x16384x12x128, .f32⟩
  | .hbm, ⟨5, _⟩ => ⟨S2x16384x12x128, .f32⟩
  | .hbm, ⟨6, _⟩ => ⟨S2x16384x12x1x128, .f32⟩
  | .hbm, ⟨7, _⟩ => ⟨S2x16384x12x1x128, .f32⟩
  | .hbm, ⟨8, _⟩ => ⟨S2x16384x12x1x128, .f32⟩
  | .hbm, ⟨9, _⟩ => ⟨S2x16384x12x3x128, .f32⟩
  | .hbm, ⟨10, _⟩ => ⟨S2x16384x3x4x3x128, .f32⟩
  | .hbm, ⟨11, _⟩ => ⟨S2x16384x4x3x3x128, .f32⟩
  | .hbm, ⟨12, _⟩ => ⟨S32768x4608, .f32⟩
  | .hbm, ⟨13, _⟩ => ⟨S32768x4608, .bf16⟩
  | .hbm, ⟨14, _⟩ => ⟨S32768x512, .bf16⟩
  | .local _ .vmem, ⟨0, _⟩ => ⟨S2048x1152, .bf16⟩
  | .local _ .vmem, ⟨1, _⟩ => ⟨S2048x1152, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2176x128, .f32⟩
  | .local _ .vmem, ⟨6, _⟩ => ⟨S2560x128, .f32⟩
  | .local _ .vmem, ⟨7, _⟩ => ⟨S4096x128, .f32⟩
  | .local _ .vmem, ⟨8, _⟩ => ⟨S2176x128, .f32⟩
  | .local _ .vmem, ⟨9, _⟩ => ⟨S2560x128, .f32⟩
  | .local _ .vmem, ⟨10, _⟩ => ⟨S4096x128, .f32⟩
  | .local _ .vmem, ⟨11, _⟩ => ⟨S3x2048x128, .f32⟩
  | .local _ .vmem, ⟨12, _⟩ => ⟨S3x2048x128, .f32⟩
  | _, _ => ⟨S2x16384x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== Kernel2.lean ====
abbrev S2x16384x8192 : Shape := ⟨3, ![2, 16384, 8192]⟩
abbrev S8192x2048 : Shape := ⟨2, ![8192, 2048]⟩
abbrev S2x16384x2048 : Shape := ⟨3, ![2, 16384, 2048]⟩
abbrev S32768x8192 : Shape := ⟨2, ![32768, 8192]⟩
abbrev S32768x2048 : Shape := ⟨2, ![32768, 2048]⟩
abbrev S1024x1024 : Shape := ⟨2, ![1024, 1024]⟩
abbrev S1024x2048 : Shape := ⟨2, ![1024, 2048]⟩

abbrev nBuf : Space → Nat
  | .hbm => 8
  | .vmem => 8
  | .smem => 0
  | _ => 0

abbrev bufTy : (tb : Table) → Fin (tcTables nBuf tb) → BufTy
  | .hbm, ⟨0, _⟩ => ⟨S2x16384x8192, .f32⟩
  | .hbm, ⟨1, _⟩ => ⟨S8192x2048, .f32⟩
  | .hbm, ⟨2, _⟩ => ⟨S2x16384x2048, .f32⟩
  | .hbm, ⟨3, _⟩ => ⟨S32768x8192, .f32⟩
  | .hbm, ⟨4, _⟩ => ⟨S32768x8192, .bf16⟩
  | .hbm, ⟨5, _⟩ => ⟨S8192x2048, .bf16⟩
  | .hbm, ⟨6, _⟩ => ⟨S32768x2048, .f32⟩
  | .hbm, ⟨7, _⟩ => ⟨S32768x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S2x16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S2x16384x8192 : Shape := ⟨3, ![2, 16384, 8192]⟩
abbrev S8192x2048 : Shape := ⟨2, ![8192, 2048]⟩
abbrev S2x16384x2048 : Shape := ⟨3, ![2, 16384, 2048]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x8192, .f32⟩
  | .hbm, ⟨1, _⟩ => ⟨S8192x2048, .f32⟩
  | .hbm, ⟨2, _⟩ => ⟨S2x16384x2048, .f32⟩
  | .hbm, ⟨3, _⟩ => ⟨S2x16384x2048, .f32⟩
  | .hbm, ⟨4, _⟩ => ⟨S2x16384x2048, .f32⟩
  | .hbm, ⟨5, _⟩ => ⟨S32768x2048, .f32⟩
  | _, _ => ⟨S2x16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S2x16384x2048 : Shape := ⟨3, ![2, 16384, 2048]⟩
abbrev S2048 : Shape := ⟨1, ![2048]⟩
abbrev S2048x8192 : Shape := ⟨2, ![2048, 8192]⟩
abbrev S32768x2048 : Shape := ⟨2, ![32768, 2048]⟩
abbrev S1x2048 : Shape := ⟨2, ![1, 2048]⟩
abbrev S32768x8192 : Shape := ⟨2, ![32768, 8192]⟩
abbrev S1024x2048 : Shape := ⟨2, ![1024, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x8192, .f32⟩
  | .hbm, ⟨3, _⟩ => ⟨S32768x2048, .f32⟩
  | .hbm, ⟨4, _⟩ => ⟨S1x2048, .f32⟩
  | .hbm, ⟨5, _⟩ => ⟨S2048x8192, .bf16⟩
  | .hbm, ⟨6, _⟩ => ⟨S32768x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c4_i32 : BitVec 32 := 4#32
  let v14 : BitVec 32 := Scalar.addi c0_i32_9 c4_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg7 : BitVec 32 := Scf.iv c0_i32_9 c1_i32 k0_t1
  let c256_i32 : BitVec 32 := 256#32
  let v15 : BitVec 32 := Scalar.muli arg7 c256_i32
  v15
def k0_off1 (k0_t1 : Fin k0_t1_loop.trips) : Fin 2 → Nat :=
  let c0_i32_9 : BitVec 32 := 0#32
  let c1_i32 : BitVec 32 := 1#32
  let arg7 : BitVec 32 := Scf.iv c0_i32_9 c1_i32 k0_t1
  let c256_i32 : BitVec 32 := 256#32
  let v15 : BitVec 32 := Scalar.muli arg7 c256_i32
  let v16 : BitVec 32 := v15
  let v17 : Index := Scalar.indexCast v16
  let c0_11 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x16384x2048 : Shape := ⟨3, ![2, 16384, 2048]⟩
abbrev S2048 : Shape := ⟨1, ![2048]⟩
abbrev S2048x8192 : Shape := ⟨2, ![2048, 8192]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x8192 : Shape := ⟨3, ![2, 16384, 8192]⟩
abbrev S32768x8192 : Shape := ⟨2, ![32768, 8192]⟩

abbrev nBuf : Space → Nat
  | .hbm => 26
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x8192, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S1x1x2048, .f32⟩
  | .hbm, ⟨17, _⟩ => ⟨S2x16384x2048, .f32⟩
  | .hbm, ⟨18, _⟩ => ⟨S2x16384x2048, .f32⟩
  | .hbm, ⟨19, _⟩ => ⟨S2x16384x8192, .f32⟩
  | .hbm, ⟨20, _⟩ => ⟨S_, .f32⟩
  | .hbm, ⟨21, _⟩ => ⟨S2x16384x8192, .f32⟩
  | .hbm, ⟨22, _⟩ => ⟨S2x16384x8192, .f32⟩
  | .hbm, ⟨23, _⟩ => ⟨S2x16384x8192, .f32⟩
  | .hbm, ⟨24, _⟩ => ⟨S32768x8192, .f32⟩
  | .hbm, ⟨25, _⟩ => ⟨S32768x8192, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x512 : Shape := ⟨3, ![2, 16384, 512]⟩
abbrev S1024x2048 : Shape := ⟨2, ![1024, 2048]⟩
abbrev S512x2048 : Shape := ⟨2, ![512, 2048]⟩
abbrev S2x16384x8192 : Shape := ⟨3, ![2, 16384, 8192]⟩
abbrev S2048x2048 : Shape := ⟨2, ![2048, 2048]⟩
abbrev S2x16384x2048 : Shape := ⟨3, ![2, 16384, 2048]⟩
abbrev S32768x1024 : Shape := ⟨2, ![32768, 1024]⟩
abbrev S32768x512 : Shape := ⟨2, ![32768, 512]⟩
abbrev S32768x8192 : Shape := ⟨2, ![32768, 8192]⟩
abbrev S32768x2048 : Shape := ⟨2, ![32768, 2048]⟩
abbrev S512x1024 : Shape := ⟨2, ![512, 1024]⟩
abbrev S512x512 : Shape := ⟨2, ![512, 512]⟩

abbrev nBuf : Space → Nat
  | .hbm => 18
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S1024x2048, .f32⟩
  | .hbm, ⟨3, _⟩ => ⟨S512x2048, .f32⟩
  | .hbm, ⟨4, _⟩ => ⟨S2x16384x8192, .f32⟩
  | .hbm, ⟨5, _⟩ => ⟨S2048x2048, .f32⟩
  | .hbm, ⟨6, _⟩ => ⟨S2x16384x2048, .f32⟩
  | .hbm, ⟨7, _⟩ => ⟨S32768x1024, .f32⟩
  | .hbm, ⟨8, _⟩ => ⟨S32768x1024, .bf16⟩
  | .hbm, ⟨9, _⟩ => ⟨S32768x512, .f32⟩
  | .hbm, ⟨10, _⟩ => ⟨S32768x512, .bf16⟩
  | .hbm, ⟨11, _⟩ => ⟨S1024x2048, .bf16⟩
  | .hbm, ⟨12, _⟩ => ⟨S512x2048, .bf16⟩
  | .hbm, ⟨13, _⟩ => ⟨S32768x8192, .f32⟩
  | .hbm, ⟨14, _⟩ => ⟨S32768x8192, .bf16⟩
  | .hbm, ⟨15, _⟩ => ⟨S2048x2048, .bf16⟩
  | .hbm, ⟨16, _⟩ => ⟨S32768x2048, .f32⟩
  | .hbm, ⟨17, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S2x16384x1024 : Shape := ⟨3, ![2, 16384, 1024]⟩
abbrev S2x16384x512 : Shape := ⟨3, ![2, 16384, 512]⟩
abbrev S1024x2048 : Shape := ⟨2, ![1024, 2048]⟩
abbrev S512x2048 : Shape := ⟨2, ![512, 2048]⟩
abbrev S2x16384x8192 : Shape := ⟨3, ![2, 16384, 8192]⟩
abbrev S2048x2048 : Shape := ⟨2, ![2048, 2048]⟩
abbrev S2x16384x2048 : Shape := ⟨3, ![2, 16384, 2048]⟩
abbrev S_ : Shape := ⟨0, ![]⟩
abbrev S32768x2048 : Shape := ⟨2, ![32768, 2048]⟩

abbrev nBuf : Space → Nat
  | .hbm => 33
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S1024x2048, .f32⟩
  | .hbm, ⟨3, _⟩ => ⟨S512x2048, .f32⟩
  | .hbm, ⟨4, _⟩ => ⟨S2x16384x8192, .f32⟩
  | .hbm, ⟨5, _⟩ => ⟨S2048x2048, .f32⟩
  | .hbm, ⟨6, _⟩ => ⟨S2x16384x2048, .f32⟩
  | .hbm, ⟨7, _⟩ => ⟨S2x16384x2048, .f32⟩
  | .hbm, ⟨8, _⟩ => ⟨S2x16384x2048, .f32⟩
  | .hbm, ⟨9, _⟩ => ⟨S2x16384x2048, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | .hbm, ⟨13, _⟩ => ⟨S_, .f32⟩
  | .hbm, ⟨14, _⟩ => ⟨S2x16384x2048, .f32⟩
  | .hbm, ⟨15, _⟩ => ⟨S2x16384x2048, .f32⟩
  | .hbm, ⟨16, _⟩ => ⟨S_, .f32⟩
  | .hbm, ⟨17, _⟩ => ⟨S2x16384x2048, .f32⟩
  | .hbm, ⟨18, _⟩ => ⟨S2x16384x2048, .f32⟩
  | .hbm, ⟨19, _⟩ => ⟨S2x16384x2048, .f32⟩
  | .hbm, ⟨20, _⟩ => ⟨S2x16384x2048, .f32⟩
  | .hbm, ⟨21, _⟩ => ⟨S2x16384x2048, .f32⟩
  | .hbm, ⟨22, _⟩ => ⟨S_, .f32⟩
  | .hbm, ⟨23, _⟩ => ⟨S2x16384x2048, .f32⟩
  | .hbm, ⟨24, _⟩ => ⟨S2x16384x2048, .f32⟩
  | .hbm, ⟨25, _⟩ => ⟨S_, .f32⟩
  | .hbm, ⟨26, _⟩ => ⟨S2x16384x2048, .f32⟩
  | .hbm, ⟨27, _⟩ => ⟨S2x16384x2048, .f32⟩
  | .hbm, ⟨28, _⟩ => ⟨S2x16384x2048, .f32⟩
  | .hbm, ⟨29, _⟩ => ⟨S2x16384x2048, .f32⟩
  | .hbm, ⟨30, _⟩ => ⟨S2x16384x2048, .f32⟩
  | .hbm, ⟨31, _⟩ => ⟨S2x16384x2048, .f32⟩
  | .hbm, ⟨32, _⟩ => ⟨S32768x2048, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel5.lean ====
abbrev S2x16384x2048 : Shape := ⟨3, ![2, 16384, 2048]⟩
abbrev S2048 : Shape := ⟨1, ![2048]⟩
abbrev S2048x12816 : Shape := ⟨2, ![2048, 12816]⟩
abbrev S2048x4096 : Shape := ⟨2, ![2048, 4096]⟩
abbrev S2048x8192 : Shape := ⟨2, ![2048, 8192]⟩
abbrev S2048x16 : Shape := ⟨2, ![2048, 16]⟩
abbrev S_ : Shape := ⟨0, ![]⟩
abbrev S2048x128 : Shape := ⟨2, ![2048, 128]⟩
abbrev S32768x2048 : Shape := ⟨2, ![32768, 2048]⟩
abbrev S1x2048 : Shape := ⟨2, ![1, 2048]⟩
abbrev S32768x8192 : Shape := ⟨2, ![32768, 8192]⟩
abbrev S32768x128 : Shape := ⟨2, ![32768, 128]⟩
abbrev S1024x2048 : Shape := ⟨2, ![1024, 2048]⟩
abbrev S2048x2048 : Shape := ⟨2, ![2048, 2048]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x12816, .f32⟩
  | .hbm, ⟨3, _⟩ => ⟨S2048x4096, .f32⟩
  | .hbm, ⟨4, _⟩ => ⟨S2048x4096, .f32⟩
  | .hbm, ⟨5, _⟩ => ⟨S2048x8192, .f32⟩
  | .hbm, ⟨6, _⟩ => ⟨S2048x8192, .bf16⟩
  | .hbm, ⟨7, _⟩ => ⟨S2048x16, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S32768x2048, .f32⟩
  | .hbm, ⟨13, _⟩ => ⟨S1x2048, .f32⟩
  | .hbm, ⟨14, _⟩ => ⟨S32768x8192, .bf16⟩
  | .hbm, ⟨15, _⟩ => ⟨S32768x128, .f32⟩
  | .hbm, ⟨16, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x128, .bf16⟩
  | .local _ .vmem, ⟨6, _⟩ => ⟨S1024x2048, .bf16⟩
  | .local _ .vmem, ⟨7, _⟩ => ⟨S1024x2048, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .vmem, ⟨11, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c4_i32 : BitVec 32 := 4#32
  let v12 : BitVec 32 := Scalar.addi c0_i32_8 c4_i32
  let c1_i32 : BitVec 32 := 1#32
  ⟨c0_i32_8, v12, c1_i32⟩
def k0_mult1 (k0_t1 : Fin k0_t1_loop.trips) : BitVec 32 :=
  let c0_i32_8 : BitVec 32 := 0#32
  let c1_i32 : BitVec 32 := 1#32
  let arg9 : BitVec 32 := Scf.iv c0_i32_8 c1_i32 k0_t1
  let c256_i32 : BitVec 32 := 256#32
  let v19 : BitVec 32 := Scalar.muli arg9 c256_i32
  v19
def k0_off1 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c256_i32 : BitVec 32 := 256#32
  let v19 : BitVec 32 := Scalar.muli arg9 c256_i32
  let v20 : BitVec 32 := v19
  let v21 : Index := Scalar.indexCast v20
  let c0_17 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S2x16384x2048 : Shape := ⟨3, ![2, 16384, 2048]⟩
abbrev S2048 : Shape := ⟨1, ![2048]⟩
abbrev S2048x12816 : Shape := ⟨2, ![2048, 12816]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x12816 : Shape := ⟨3, ![2, 16384, 12816]⟩
abbrev S2x16384x4096 : Shape := ⟨3, ![2, 16384, 4096]⟩
abbrev S2x16384x8192 : Shape := ⟨3, ![2, 16384, 8192]⟩
abbrev S2x16384x16 : Shape := ⟨3, ![2, 16384, 16]⟩
abbrev S2x16384x128 : Shape := ⟨3, ![2, 16384, 128]⟩
abbrev S32768x8192 : Shape := ⟨2, ![32768, 8192]⟩
abbrev S32768x128 : Shape := ⟨2, ![32768, 128]⟩
abbrev S32768x2048 : Shape := ⟨2, ![32768, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x12816, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S1x1x2048, .f32⟩
  | .hbm, ⟨17, _⟩ => ⟨S2x16384x2048, .f32⟩
  | .hbm, ⟨18, _⟩ => ⟨S2x16384x2048, .f32⟩
  | .hbm, ⟨19, _⟩ => ⟨S2x16384x12816, .f32⟩
  | .hbm, ⟨20, _⟩ => ⟨S2x16384x4096, .f32⟩
  | .hbm, ⟨21, _⟩ => ⟨S2x16384x4096, .f32⟩
  | .hbm, ⟨22, _⟩ => ⟨S2x16384x8192, .f32⟩
  | .hbm, ⟨23, _⟩ => ⟨S2x16384x16, .f32⟩
  | .hbm, ⟨24, _⟩ => ⟨S_, .i32⟩
  | .hbm, ⟨25, _⟩ => ⟨S_, .f32⟩
  | .hbm, ⟨26, _⟩ => ⟨S2x16384x128, .f32⟩
  | .hbm, ⟨27, _⟩ => ⟨S32768x8192, .f32⟩
  | .hbm, ⟨28, _⟩ => ⟨S32768x8192, .bf16⟩
  | .hbm, ⟨29, _⟩ => ⟨S32768x128, .f32⟩
  | .hbm, ⟨30, _⟩ => ⟨S32768x2048, .f32⟩
  | .hbm, ⟨31, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel6.lean ====
abbrev S2x16384x2048 : Shape := ⟨3, ![2, 16384, 2048]⟩
abbrev S2048x12816 : Shape := ⟨2, ![2048, 12816]⟩
abbrev S2x16384x64 : Shape := ⟨3, ![2, 16384, 64]⟩
abbrev S128 : Shape := ⟨1, ![128]⟩
abbrev S2048x128 : Shape := ⟨2, ![2048, 128]⟩
abbrev S2048x2048 : Shape := ⟨2, ![2048, 2048]⟩
abbrev S2048x512 : Shape := ⟨2, ![2048, 512]⟩
abbrev S2048x4608 : Shape := ⟨2, ![2048, 4608]⟩
abbrev S2x16384x128 : Shape := ⟨3, ![2, 16384, 128]⟩
abbrev S32768x128 : Shape := ⟨2, ![32768, 128]⟩
abbrev S32768x2048 : Shape := ⟨2, ![32768, 2048]⟩
abbrev S1x128 : Shape := ⟨2, ![1, 128]⟩
abbrev S32768x4608 : Shape := ⟨2, ![32768, 4608]⟩
abbrev S1024x2048 : Shape := ⟨2, ![1024, 2048]⟩
abbrev S2048x2304 : Shape := ⟨2, ![2048, 2304]⟩
abbrev S1024x128 : Shape := ⟨2, ![1024, 128]⟩
abbrev S1024x2304 : Shape := ⟨2, ![1024, 2304]⟩
abbrev S1024 : Shape := ⟨1, ![1024]⟩
abbrev S1024x1 : Shape := ⟨2, ![1024, 1]⟩

abbrev nBuf : Space → Nat
  | .hbm => 57
  | .vmem => 13
  | .smem => 0
  | _ => 0

abbrev bufTy : (tb : Table) → Fin (tcTables nBuf tb) → BufTy
  | .hbm, ⟨0, _⟩ => ⟨S2x16384x2048, .f32⟩
  | .hbm, ⟨1, _⟩ => ⟨S2048x12816, .f32⟩
  | .hbm, ⟨2, _⟩ => ⟨S2x16384x64, .f32⟩
  | .hbm, ⟨3, _⟩ => ⟨S2x16384x64, .f32⟩
  | .hbm, ⟨4, _⟩ => ⟨S128, .f32⟩
  | .hbm, ⟨5, _⟩ => ⟨S128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S2048x128, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S2048x128, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S2048x128, .f32⟩
  | .hbm, ⟨39, _⟩ => ⟨S2048x128, .f32⟩
  | .hbm, ⟨40, _⟩ => ⟨S2048x128, .f32⟩
  | .hbm, ⟨41, _⟩ => ⟨S2048x128, .f32⟩
  | .hbm, ⟨42, _⟩ => ⟨S2048x2048, .f32⟩
  | .hbm, ⟨43, _⟩ => ⟨S2048x2048, .f32⟩
  | .hbm, ⟨44, _⟩ => ⟨S2048x512, .f32⟩
  | .hbm, ⟨45, _⟩ => ⟨S2048x4608, .f32⟩
  | .hbm, ⟨46, _⟩ => ⟨S2048x4608, .bf16⟩
  | .hbm, ⟨47, _⟩ => ⟨S2x16384x128, .f32⟩
  | .hbm, ⟨48, _⟩ => ⟨S32768x128, .f32⟩
  | .hbm, ⟨49, _⟩ => ⟨S2x16384x64, .f32⟩
  | .hbm, ⟨50, _⟩ => ⟨S2x16384x128, .f32⟩
  | .hbm, ⟨51, _⟩ => ⟨S32768x128, .f32⟩
  | .hbm, ⟨52, _⟩ => ⟨S32768x2048, .f32⟩
  | .hbm, ⟨53, _⟩ => ⟨S32768x2048, .bf16⟩
  | .hbm, ⟨54, _⟩ => ⟨S1x128, .f32⟩
  | .hbm, ⟨55, _⟩ => ⟨S1x128, .f32⟩
  | .hbm, ⟨56, _⟩ => ⟨S32768x4608, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2304, .bf16⟩
  | .local _ .vmem, ⟨3, _⟩ => ⟨S2048x2304, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | .local _ .vmem, ⟨9, _⟩ => ⟨S1x128, .f32⟩
  | .local _ .vmem, ⟨10, _⟩ => ⟨S1024x2304, .bf16⟩
  | .local _ .vmem, ⟨11, _⟩ => ⟨S1024x2304, .bf16⟩
  | .local _ .vmem, ⟨12, _⟩ => ⟨S1024x2304, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S2x16384x2048 : Shape := ⟨3, ![2, 16384, 2048]⟩
abbrev S2048x12816 : Shape := ⟨2, ![2048, 12816]⟩
abbrev S2x16384x64 : Shape := ⟨3, ![2, 16384, 64]⟩
abbrev S128 : Shape := ⟨1, ![128]⟩
abbrev S2x16384x12816 : Shape := ⟨3, ![2, 16384, 12816]⟩
abbrev S2x16384x4608 : Shape := ⟨3, ![2, 16384, 4608]⟩
abbrev S2x16384x1536 : Shape := ⟨3, ![2, 16384, 1536]⟩
abbrev S2x16384x12x128 : Shape := ⟨4, ![2, 16384, 12, 128]⟩
abbrev S_ : Shape := ⟨0, ![]⟩
abbrev S2x16384x12 : Shape := ⟨3, ![2, 16384, 12]⟩
abbrev S2x16384x12x1 : Shape := ⟨4, ![2, 16384, 12, 1]⟩
abbrev S1x1x1x128 : Shape := ⟨4, ![1, 1, 1, 128]⟩
abbrev S2x16384x128 : Shape := ⟨3, ![2, 16384, 128]⟩
abbrev S2x16384x1x128 : Shape := ⟨4, ![2, 16384, 1, 128]⟩
abbrev S2x16384x12x64 : Shape := ⟨4, ![2, 16384, 12, 64]⟩
abbrev S2x16384x12x1x128 : Shape := ⟨5, ![2, 16384, 12, 1, 128]⟩
abbrev S2x16384x12x3x128 : Shape := ⟨5, ![2, 16384, 12, 3, 128]⟩
abbrev S32768x3x4x384 : Shape := ⟨4, ![32768, 3, 4, 384]⟩
abbrev S32768x4x3x384 : Shape := ⟨4, ![32768, 4, 3, 384]⟩
abbrev S32768x4608 : Shape := ⟨2, ![32768, 4608]⟩

abbrev nBuf : Space → Nat
  | .hbm => 83
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x12816, .f32⟩
  | .hbm, ⟨2, _⟩ => ⟨S2x16384x64, .f32⟩
  | .hbm, ⟨3, _⟩ => ⟨S2x16384x64, .f32⟩
  | .hbm, ⟨4, _⟩ => ⟨S128, .f32⟩
  | .hbm, ⟨5, _⟩ => ⟨S128, .f32⟩
  | .hbm, ⟨6, _⟩ => ⟨S2x16384x12816, .f32⟩
  | .hbm, ⟨7, _⟩ => ⟨S2x16384x4608, .f32⟩
  | .hbm, ⟨8, _⟩ => ⟨S2x16384x1536, .f32⟩
  | .hbm, ⟨9, _⟩ => ⟨S2x16384x1536, .f32⟩
  | .hbm, ⟨10, _⟩ => ⟨S2x16384x1536, .f32⟩
  | .hbm, ⟨11, _⟩ => ⟨S2x16384x12x128, .f32⟩
  | .hbm, ⟨12, _⟩ => ⟨S2x16384x12x128, .f32⟩
  | .hbm, ⟨13, _⟩ => ⟨S_, .f32⟩
  | .hbm, ⟨14, _⟩ => ⟨S2x16384x12, .f32⟩
  | .hbm, ⟨15, _⟩ => ⟨S2x16384x12x1, .f32⟩
  | .hbm, ⟨16, _⟩ => ⟨S_, .f32⟩
  | .hbm, ⟨17, _⟩ => ⟨S2x16384x12x1, .f32⟩
  | .hbm, ⟨18, _⟩ => ⟨S2x16384x12x1, .f32⟩
  | .hbm, ⟨19, _⟩ => ⟨S_, .f32⟩
  | .hbm, ⟨20, _⟩ => ⟨S2x16384x12x1, .f32⟩
  | .hbm, ⟨21, _⟩ => ⟨S2x16384x12x1, .f32⟩
  | .hbm, ⟨22, _⟩ => ⟨S2x16384x12x1, .f32⟩
  | .hbm, ⟨23, _⟩ => ⟨S2x16384x12x128, .f32⟩
  | .hbm, ⟨24, _⟩ => ⟨S2x16384x12x128, .f32⟩
  | .hbm, ⟨25, _⟩ => ⟨S1x1x1x128, .f32⟩
  | .hbm, ⟨26, _⟩ => ⟨S2x16384x12x128, .f32⟩
  | .hbm, ⟨27, _⟩ => ⟨S2x16384x12x128, .f32⟩
  | .hbm, ⟨28, _⟩ => ⟨S2x16384x128, .f32⟩
  | .hbm, ⟨29, _⟩ => ⟨S2x16384x1x128, .f32⟩
  | .hbm, ⟨30, _⟩ => ⟨S2x16384x128, .f32⟩
  | .hbm, ⟨31, _⟩ => ⟨S2x16384x1x128, .f32⟩
  | .hbm, ⟨32, _⟩ => ⟨S2x16384x12x64, .f32⟩
  | .hbm, ⟨33, _⟩ => ⟨S2x16384x12x64, .f32⟩
  | .hbm, ⟨34, _⟩ => ⟨S2x16384x12x64, .f32⟩
  | .hbm, ⟨35, _⟩ => ⟨S2x16384x12x128, .f32⟩
  | .hbm, ⟨36, _⟩ => ⟨S2x16384x12x128, .f32⟩
  | .hbm, ⟨37, _⟩ => ⟨S2x16384x12x128, .f32⟩
  | .hbm, ⟨38, _⟩ => ⟨S2x16384x12x128, .f32⟩
  | .hbm, ⟨39, _⟩ => ⟨S2x16384x12x128, .f32⟩
  | .hbm, ⟨40, _⟩ => ⟨S2x16384x12x128, .f32⟩
  | .hbm, ⟨41, _⟩ => ⟨S_, .f32⟩
  | .hbm, ⟨42, _⟩ => ⟨S2x16384x12x128, .f32⟩
  | .hbm, ⟨43, _⟩ => ⟨S2x16384x12x128, .f32⟩
  | .hbm, ⟨44, _⟩ => ⟨S2x16384x12x128, .f32⟩
  | .hbm, ⟨45, _⟩ => ⟨S2x16384x12x128, .f32⟩
  | .hbm, ⟨46, _⟩ => ⟨S_, .f32⟩
  | .hbm, ⟨47, _⟩ => ⟨S2x16384x12, .f32⟩
  | .hbm, ⟨48, _⟩ => ⟨S2x16384x12x1, .f32⟩
  | .hbm, ⟨49, _⟩ => ⟨S_, .f32⟩
  | .hbm, ⟨50, _⟩ => ⟨S2x16384x12x1, .f32⟩
  | .hbm, ⟨51, _⟩ => ⟨S2x16384x12x1, .f32⟩
  | .hbm, ⟨52, _⟩ => ⟨S_, .f32⟩
  | .hbm, ⟨53, _⟩ => ⟨S2x16384x12x1, .f32⟩
  | .hbm, ⟨54, _⟩ => ⟨S2x16384x12x1, .f32⟩
  | .hbm, ⟨55, _⟩ => ⟨S2x16384x12x1, .f32⟩
  | .hbm, ⟨56, _⟩ => ⟨S2x16384x12x128, .f32⟩
  | .hbm, ⟨57, _⟩ => ⟨S2x16384x12x128, .f32⟩
  | .hbm, ⟨58, _⟩ => ⟨S1x1x1x128, .f32⟩
  | .hbm, ⟨59, _⟩ => ⟨S2x16384x12x128, .f32⟩
  | .hbm, ⟨60, _⟩ => ⟨S2x16384x12x128, .f32⟩
  | .hbm, ⟨61, _⟩ => ⟨S2x16384x128, .f32⟩
  | .hbm, ⟨62, _⟩ => ⟨S2x16384x1x128, .f32⟩
  | .hbm, ⟨63, _⟩ => ⟨S2x16384x128, .f32⟩
  | .hbm, ⟨64, _⟩ => ⟨S2x16384x1x128, .f32⟩
  | .hbm, ⟨65, _⟩ => ⟨S2x16384x12x64, .f32⟩
  | .hbm, ⟨66, _⟩ => ⟨S2x16384x12x64, .f32⟩
  | .hbm, ⟨67, _⟩ => ⟨S2x16384x12x64, .f32⟩
  | .hbm, ⟨68, _⟩ => ⟨S2x16384x12x128, .f32⟩
  | .hbm, ⟨69, _⟩ => ⟨S2x16384x12x128, .f32⟩
  | .hbm, ⟨70, _⟩ => ⟨S2x16384x12x128, .f32⟩
  | .hbm, ⟨71, _⟩ => ⟨S2x16384x12x128, .f32⟩
  | .hbm, ⟨72, _⟩ => ⟨S2x16384x12x128, .f32⟩
  | .hbm, ⟨73, _⟩ => ⟨S2x16384x12x128, .f32⟩
  | .hbm, ⟨74, _⟩ => ⟨S2x16384x12x128, .f32⟩
  | .hbm, ⟨75, _⟩ => ⟨S2x16384x12x1x128, .f32⟩
  | .hbm, ⟨76, _⟩ => ⟨S2x16384x12x1x128, .f32⟩
  | .hbm, ⟨77, _⟩ => ⟨S2x16384x12x1x128, .f32⟩
  | .hbm, ⟨78, _⟩ => ⟨S2x16384x12x3x128, .f32⟩
  | .hbm, ⟨79, _⟩ => ⟨S32768x3x4x384, .f32⟩
  | .hbm, ⟨80, _⟩ => ⟨S32768x4x3x384, .f32⟩
  | .hbm, ⟨81, _⟩ => ⟨S32768x4608, .f32⟩
  | .hbm, ⟨82, _⟩ => ⟨S32768x4608, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩

abbrev nD : Nat := 1
abbrev τ : Topo := Topo.v7x

variable {F : FTy → Type} [FloatOps F]
-- ==== Kernel7.lean ====
abbrev S2x16384 : Shape := ⟨2, ![2, 16384]⟩
abbrev S64 : Shape := ⟨1, ![64]⟩
abbrev S_ : Shape := ⟨0, ![]⟩
abbrev S32768x1 : Shape := ⟨2, ![32768, 1]⟩
abbrev S128 : Shape := ⟨1, ![128]⟩
abbrev S1x128 : Shape := ⟨2, ![1, 128]⟩
abbrev S32768x128 : Shape := ⟨2, ![32768, 128]⟩
abbrev S2048x1 : Shape := ⟨2, ![2048, 1]⟩
abbrev S2048x128 : Shape := ⟨2, ![2048, 128]⟩

abbrev nBuf : Space → Nat
  | .hbm => 14
  | .vmem => 7
  | .smem => 0
  | _ => 0

abbrev bufTy : (tb : Table) → Fin (tcTables nBuf tb) → BufTy
  | .hbm, ⟨0, _⟩ => ⟨S2x16384, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S32768x1, .i32⟩
  | .hbm, ⟨10, _⟩ => ⟨S128, .f32⟩
  | .hbm, ⟨11, _⟩ => ⟨S1x128, .f32⟩
  | .hbm, ⟨12, _⟩ => ⟨S32768x128, .f32⟩
  | .hbm, ⟨13, _⟩ => ⟨S32768x128, .f32⟩
  | .local _ .vmem, ⟨0, _⟩ => ⟨S2048x1, .i32⟩
  | .local _ .vmem, ⟨1, _⟩ => ⟨S2048x1, .i32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S2x16384 : Shape := ⟨2, ![2, 16384]⟩
abbrev S64 : Shape := ⟨1, ![64]⟩
abbrev S_ : Shape := ⟨0, ![]⟩
abbrev S2x16384x1 : Shape := ⟨3, ![2, 16384, 1]⟩
abbrev S1x1x64 : Shape := ⟨3, ![1, 1, 64]⟩
abbrev S2x16384x64 : Shape := ⟨3, ![2, 16384, 64]⟩
abbrev S2x16384x128 : Shape := ⟨3, ![2, 16384, 128]⟩
abbrev S32768x128 : Shape := ⟨2, ![32768, 128]⟩

abbrev nBuf : Space → Nat
  | .hbm => 24
  | .vmem => 0
  | .smem => 0
  | _ => 0

abbrev bufTy : (tb : Table) → Fin (tcTables nBuf tb) → BufTy
  | .hbm, ⟨0, _⟩ => ⟨S2x16384, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S2x16384, .f32⟩
  | .hbm, ⟨10, _⟩ => ⟨S2x16384x1, .f32⟩
  | .hbm, ⟨11, _⟩ => ⟨S1x1x64, .f32⟩
  | .hbm, ⟨12, _⟩ => ⟨S2x16384x64, .f32⟩
  | .hbm, ⟨13, _⟩ => ⟨S2x16384x64, .f32⟩
  | .hbm, ⟨14, _⟩ => ⟨S2x16384x64, .f32⟩
  | .hbm, ⟨15, _⟩ => ⟨S2x16384x64, .f32⟩
  | .hbm, ⟨16, _⟩ => ⟨S2x16384x64, .f32⟩
  | .hbm, ⟨17, _⟩ => ⟨S2x16384x128, .f32⟩
  | .hbm, ⟨18, _⟩ => ⟨S2x16384x64, .f32⟩
  | .hbm, ⟨19, _⟩ => ⟨S2x16384x64, .f32⟩
  | .hbm, ⟨20, _⟩ => ⟨S2x16384x64, .f32⟩
  | .hbm, ⟨21, _⟩ => ⟨S2x16384x128, .f32⟩
  | .hbm, ⟨22, _⟩ => ⟨S32768x128, .f32⟩
  | .hbm, ⟨23, _⟩ => ⟨S32768x128, .f32⟩
  | _, _ => ⟨S2x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Proof.SwaRuns.lean ====
/- What the runs of the attention kernel's body are stated over: its branch condition in closed form, its staging memrefs
   and its scratch, and the launch's invariant with the scratch as memrefs.  Everything here is at any float instance `F`,
   so that one run serves the program at the machine's floats and at the extended reals. -/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (the first block of a sequence), from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 8 % 4 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-! ## The memrefs of the body -/

/-- Each window's current staging memref at point `t`, spelled as the pipeline passes it (`bodyAt0`), and its wholeness. -/
abbrev ms0_0 (t : Fin cfg0.N) : Memref sig .tc .vmem S2048x1152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S2048x128 .f32 := Memref.whole cc0_scratch0
abbrev scM0_1 : Memref sig .tc .vmem S2176x128 .f32 := Memref.whole cc0_scratch1
abbrev scM0_2 : Memref sig .tc .vmem S2560x128 .f32 := Memref.whole cc0_scratch2
abbrev scM0_3 : Memref sig .tc .vmem S4096x128 .f32 := Memref.whole cc0_scratch3
abbrev scM0_4 : Memref sig .tc .vmem S2176x128 .f32 := Memref.whole cc0_scratch4
abbrev scM0_5 : Memref sig .tc .vmem S2560x128 .f32 := Memref.whole cc0_scratch5
abbrev scM0_6 : Memref sig .tc .vmem S4096x128 .f32 := Memref.whole cc0_scratch6
abbrev scM0_7 : Memref sig .tc .vmem S3x2048x128 .f32 := Memref.whole cc0_scratch7
abbrev scM0_8 : Memref sig .tc .vmem S3x2048x128 .f32 := Memref.whole cc0_scratch8

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Body

end
-- ==== Proof.SwaParts.lean ====
/- What one run of the attention kernel's body leaves, as a function of two input blocks: the block of tokens it is at and the
   one before it in the same sequence. Stated at any float instance, with the general lemmas its two runs are read by. -/
module

public import proofs.«01_k».proof.Proof.SwaRuns
public import Idealize.ShloMosaic.Lib.ValueIdx
public import Idealize.ShloMosaic.Lib.VecWindow
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- The dilation of group `g`. -/
def dil : ℕ → ℕ
  | 0 => 1
  | 1 => 4
  | _ => 16

/-- Row `r`, column `c` of a staged block. -/
def xat (x : Vec F S2048x1152 .bf16) (r c : ℕ) : F .bf16 :=
  x (ix2 ⟨r % 2048, Nat.mod_lt _ (by decide)⟩ ⟨c % 1152, Nat.mod_lt _ (by decide)⟩)

/-- A bf16 number as the f32 of the same value. -/
def wide (z : F .bf16) : F .f32 := FloatOps.extf .f32 bitsLt_bf16_f32 z

/-- The zero the rows before a sequence's first token hold. -/
def zero32 : F .f32 := Scalar.ofBits .f32 0x00000000#32

/-- Group `g`'s queries of the block, row by row. -/
def qcon (x : Vec F S2048x1152 .bf16) (g ρ l : ℕ) : F .f32 := wide (xat x ρ (384 * g + l))

/-- Group `g`'s keys (`p = 1`) or values (`p = 2`) as the body has them when it works on the group: the last
    `128 · dil g` tokens of the block before (or zeros, at a sequence's first block), then the block's own tokens. -/
def kcon (first : Bool) (x y : Vec F S2048x1152 .bf16) (p g ρ l : ℕ) : F .f32 :=
  if ρ < 128 * dil g then
    (if first then zero32 else wide (xat y (2048 - 128 * dil g + ρ) (384 * g + 128 * p + l)))
  else wide (xat x (ρ - 128 * dil g) (384 * g + 128 * p + l))

/-- 128 rows of queries from row `n`, a dilation apart. -/
def blkQ (C : ℕ → ℕ → F .f32) (n d : ℕ) : Vec F S128x128 .f32 := fun j => C (n + d * (j 0).val) (j 1).val

/-- 256 rows of keys or values from row `n`, a dilation apart. -/
def blkK (C : ℕ → ℕ → F .f32) (n d : ℕ) : Vec F S256x128 .f32 := fun j => C (n + d * (j 0).val) (j 1).val

/-- Which keys a query of a block of queries sees: the first block of a sequence sees no key before the sequence. -/
def msk (i : grid0.Coords) (b : ℕ) : IVec S128x256 1 := if b = 0 then k0_pay3 i else k0_pay2

/-- A [3, 2048, 128] buffer whose entry at (group, token, lane) is the tile function `pay` of the block of queries the
    token falls in, read at the token's place within it. -/
def tileF (pay : IVec S128x256 1 → Vec F S128x128 .f32 → Vec F S256x128 .f32 → Vec F S256x128 .f32 → FVec F S1x128x128 .f32)
    (i : grid0.Coords) (q k v : ℕ → ℕ → ℕ → F .f32) (y : S3x2048x128.Idx) : F .f32 :=
  pay (msk i ((y 1).val / (128 * dil (y 0).val)))
    (blkQ (q (y 0).val) (128 * dil (y 0).val * ((y 1).val / (128 * dil (y 0).val)) + (y 1).val % dil (y 0).val) (dil (y 0).val))
    (blkK (k (y 0).val) (128 * dil (y 0).val * ((y 1).val / (128 * dil (y 0).val)) + (y 1).val % dil (y 0).val) (dil (y 0).val))
    (blkK (v (y 0).val) (128 * dil (y 0).val * ((y 1).val / (128 * dil (y 0).val)) + (y 1).val % dil (y 0).val) (dil (y 0).val))
    (ix3 ⟨0, by decide⟩ ⟨(y 1).val % (128 * dil (y 0).val) / dil (y 0).val % 128, Nat.mod_lt _ (by decide)⟩ ⟨(y 2).val, (y 2).isLt⟩)

/-- The attention output of one tile and the logarithm of its softmax denominator, of which the body writes one per (group,
    block of queries). -/
abbrev payO (m : IVec S128x256 1) (Q : Vec F S128x128 .f32) (K V : Vec F S256x128 .f32) : FVec F S1x128x128 .f32 := k0_pay14 m k0_pay4 Q K V
abbrev payL (m : IVec S128x256 1) (Q : Vec F S128x128 .f32) (K V : Vec F S256x128 .f32) : FVec F S1x128x128 .f32 := k0_pay15 m k0_pay4 Q K V

/-- Group `g`'s plane of a [3, 2048, 128] buffer. -/
def plane (G : S3x2048x128.Idx → F .f32) (g : Fin 3) : Vec F S1x2048x128 .f32 :=
  fun j => G (ix3 g ⟨(j 1).val, (j 1).isLt⟩ ⟨(j 2).val, (j 2).isLt⟩)

/-- The three groups' outputs weighted by the softmax of their log denominators. -/
def mixF (o0 o1 o2 l0 l1 l2 : Vec F S1x2048x128 .f32) : FVec F S2048x128 .bf16 :=
  k0_pay1 (k0_pay369 (k0_pay368 l0 l1 l2)) (k0_pay370 (k0_pay365 l1) (k0_pay367 l0 l1 l2)) (k0_pay371 (k0_pay366 l2) (k0_pay367 l0 l1 l2))
    (k0_pay372 (k0_pay365 l1) (k0_pay367 l0 l1 l2) (k0_pay368 l0 l1 l2) o0 o1) o2

/-- THE OUTPUT BLOCK at grid point `i`, from the input block `x` there and the input block `y` before it. -/
def outF (first : Bool) (i : grid0.Coords) (x y : Vec F S2048x1152 .bf16) : Vec F S2048x128 .bf16 :=
  let O := tileF payO i (qcon x) (kcon first x y 1) (kcon first x y 2)
  let L := tileF payL i (qcon x) (kcon first x y 1) (kcon first x y 2)
  mixF (plane O 0) (plane O 1) (plane O 2) (plane L 0) (plane L 1) (plane L 2)

theorem outF_eq (first : Bool) (i : grid0.Coords) (x y : Vec F S2048x1152 .bf16) : outF first i x y
    = mixF (plane (tileF payO i (qcon x) (kcon first x y 1) (kcon first x y 2)) 0) (plane (tileF payO i (qcon x) (kcon first x y 1) (kcon first x y 2)) 1)
        (plane (tileF payO i (qcon x) (kcon first x y 1) (kcon first x y 2)) 2) (plane (tileF payL i (qcon x) (kcon first x y 1) (kcon first x y 2)) 0)
        (plane (tileF payL i (qcon x) (kcon first x y 1) (kcon first x y 2)) 1) (plane (tileF payL i (qcon x) (kcon first x y 1) (kcon first x y 2)) 2) := rfl

/-- A piece of the body's [3, 2048, 128] writes IS a tile of `tileF`: its payload is the tile function of the rows its
    rectangle names, `n` being the first of them. -/
theorem tile_piece (pay : IVec S128x256 1 → Vec F S128x128 .f32 → Vec F S256x128 .f32 → Vec F S256x128 .f32 → FVec F S1x128x128 .f32)
    (i : grid0.Coords) (q k v : ℕ → ℕ → ℕ → F .f32) (g n : ℕ) {m : IVec S128x256 1} {Q : Vec F S128x128 .f32} {K V : Vec F S256x128 .f32}
    {w : FVec F S1x128x128 .f32} {o s : Fin 3 → ℕ} {inb : ∀ a, S1x128x128.size a = 0 ∨ o a + s a * (S1x128x128.size a - 1) < S3x2048x128.size a}
    {sp : ∀ a, 0 < s a}
    (h0 : o 0 = g) (h1 : o 1 = n) (h2 : o 2 = 0) (s1 : s 1 = dil g) (s2 : s 2 = 1) (hr : n % (128 * dil g) < dil g)
    (hw : w = pay m Q K V) (hm : m = msk i (n / (128 * dil g))) (hQ : Q = blkQ (q g) n (dil g)) (hK : K = blkK (k g) n (dil g))
    (hV : V = blkK (v g) n (dil g)) (x : S1x128x128.Idx) :
    w x = tileF pay i q k v ((Rect.mk (s := S3x2048x128) ⟨o, S1x128x128.size, s, inb⟩ sp).emb x) := by
  have hx0 : (x 0).val = 0 := by have := (x 0).isLt; change (x 0).val < 1 at this; omega
  have hx1 : (x 1).val < 128 := (x 1).isLt
  obtain ⟨b, r, hr', hn, hb⟩ : ∃ b r, r < dil g ∧ n = 128 * dil g * b + r ∧ n / (128 * dil g) = b :=
    ⟨_, _, hr, (Nat.div_add_mod n (128 * dil g)).symm, rfl⟩
  have e0 : (((Rect.mk (s := S3x2048x128) ⟨o, S1x128x128.size, s, inb⟩ sp).emb x) 0).val = g := by
    rw [Rect.emb_apply]; show o 0 + s 0 * (x 0).val = g; rw [hx0, h0]; simp
  have e1 : (((Rect.mk (s := S3x2048x128) ⟨o, S1x128x128.size, s, inb⟩ sp).emb x) 1).val = 128 * dil g * b + (dil g * (x 1).val + r) := by
    rw [Rect.emb_apply]; show o 1 + s 1 * (x 1).val = _; rw [h1, s1, hn]; omega
  have e2 : (((Rect.mk (s := S3x2048x128) ⟨o, S1x128x128.size, s, inb⟩ sp).emb x) 2).val = (x 2).val := by
    rw [Rect.emb_apply]; show o 2 + s 2 * (x 2).val = _; rw [h2, s2]; simp
  have hd : 0 < dil g := by omega
  have hlt : dil g * (x 1).val + r < 128 * dil g := by nlinarith
  have eb : (128 * dil g * b + (dil g * (x 1).val + r)) / (128 * dil g) = b := by
    rw [Nat.mul_add_div (by omega), Nat.div_eq_of_lt hlt, Nat.add_zero]
  have em : (128 * dil g * b + (dil g * (x 1).val + r)) % (128 * dil g) = dil g * (x 1).val + r := by
    rw [Nat.mul_add_mod, Nat.mod_eq_of_lt hlt]
  have er : (128 * dil g * b + (dil g * (x 1).val + r)) % dil g = r := by
    rw [show 128 * dil g * b + (dil g * (x 1).val + r) = dil g * (128 * b + (x 1).val) + r by ring, Nat.mul_add_mod, Nat.mod_eq_of_lt hr']
  have ej : (dil g * (x 1).val + r) / dil g % 128 = (x 1).val := by
    rw [Nat.mul_add_div hd, Nat.div_eq_of_lt hr', Nat.add_zero, Nat.mod_eq_of_lt hx1]
  unfold tileF
  simp only [e0, e1, e2, eb, em, er, ej]
  rw [hw, hm, hQ, hK, hV, hb, hn]
  congr 1
  funext a
  match a with
  | 0 => exact Fin.ext hx0
  | 1 => rfl
  | 2 => rfl

/-- The offset and stride of a piece's rectangle, and its sizes. -/
def key (p : View.Piece (Elt F) S3x2048x128 .f32) : ℕ × ℕ × ℕ × ℕ × ℕ × ℕ × ℕ × ℕ :=
  (p.1.off 0, p.1.off 1, p.1.stride 1, p.1.off 2, p.1.stride 2, p.1.size 0, p.1.size 1, p.1.size 2)

/-- The 48 tiles in the order the body writes them. -/
def keys : List (ℕ × ℕ × ℕ × ℕ × ℕ × ℕ × ℕ × ℕ) :=
  (List.range 16).map (fun n => (0, 128 * n, 1, 0, 1, 1, 128, 128)) ++ (List.range 16).map (fun n => (1, 512 * (n % 4) + n / 4, 4, 0, 1, 1, 128, 128))
    ++ (List.range 16).map (fun n => (2, n, 16, 0, 1, 1, 128, 128))

/-- Together they cover the buffer. -/
theorem cover_of_keys (L : List (View.Piece (Elt F) S3x2048x128 .f32)) (h : L.map key = keys.reverse) (y : S3x2048x128.Idx) :
    ∃ p ∈ L, y ∈ p.1.set := by
  have h0 : (y 0).val < 3 := (y 0).isLt
  have h1 : (y 1).val < 2048 := (y 1).isLt
  have h2 : (y 2).val < 128 := (y 2).isLt
  have main : ∀ n d : ℕ, ((y 0).val, n, d, 0, 1, 1, 128, 128) ∈ keys → (∃ j < 128, (y 1).val = n + d * j) → ∃ p ∈ L, y ∈ p.1.set := by
    intro n d hk hj
    rw [← List.mem_reverse, ← h, List.mem_map] at hk
    obtain ⟨p, hp, e⟩ := hk
    simp only [key, Prod.mk.injEq] at e
    obtain ⟨a1, a2, a3, a4, a5, a6, a7, a8⟩ := e
    refine ⟨p, hp, (LoadRect.mem_set _).2 fun a => ?_⟩
    match a with
    | 0 => exact ⟨0, by rw [show p.1.size 0 = 1 from a6]; decide, by rw [show p.1.off 0 = _ from a1]; simp⟩
    | 1 => obtain ⟨j, hj1, hj2⟩ := hj
           exact ⟨j, by rw [show p.1.size 1 = 128 from a7]; exact hj1, by rw [show p.1.off 1 = _ from a2, show p.1.stride 1 = _ from a3]; exact hj2⟩
    | 2 => exact ⟨(y 2).val, by rw [show p.1.size 2 = 128 from a8]; exact h2, by rw [show p.1.off 2 = _ from a4, show p.1.stride 2 = _ from a5]; simp⟩
  have hcases : (y 0).val = 0 ∨ (y 0).val = 1 ∨ (y 0).val = 2 := by omega
  rcases hcases with e | e | e
  · refine main (128 * ((y 1).val / 128)) 1 ?_ ⟨(y 1).val % 128, by omega, by omega⟩
    rw [e]
    simp only [keys, List.mem_append, List.mem_map, List.mem_range]
    exact Or.inl (Or.inl ⟨(y 1).val / 128, by omega, rfl⟩)
  · refine main (512 * ((y 1).val / 512) + (y 1).val % 4) 4 ?_ ⟨(y 1).val % 512 / 4, by omega, by omega⟩
    rw [e]
    simp only [keys, List.mem_append, List.mem_map, List.mem_range]
    exact Or.inl (Or.inr ⟨4 * ((y 1).val % 4) + (y 1).val / 512, by omega, by
      rw [show (4 * ((y 1).val % 4) + (y 1).val / 512) % 4 = (y 1).val / 512 by omega,
        show (4 * ((y 1).val % 4) + (y 1).val / 512) / 4 = (y 1).val % 4 by omega]⟩)
  · refine main ((y 1).val % 16) 16 ?_ ⟨(y 1).val / 16, by omega, by omega⟩
    rw [e]
    simp only [keys, List.mem_append, List.mem_map, List.mem_range]
    exact Or.inr ⟨(y 1).val % 16, by omega, rfl⟩

/-- A load of group `g`'s plane after the 48 writes reads the plane of the function their payloads are tiles of. -/
theorem read_plane (v : View sig .tc .vmem S3x2048x128 .f32) (f : v.ty.Contents (Elt F)) (L : List (View.Piece (Elt F) S3x2048x128 .f32))
    (G : S3x2048x128.Idx → F .f32) (hL : ∀ p ∈ L, ∀ x : p.1.shape.Idx, p.2 x = G (p.1.emb x)) (hk : L.map key = keys.reverse)
    (g : Fin 3) {o : Fin 3 → ℕ} (inb : ∀ a, o a + S1x2048x128.size a ≤ S3x2048x128.size a) (h0 : o 0 = g.val) (h1 : o 1 = 0) (h2 : o 2 = 0) :
    v.readAt (Elt F) (Rect.unit (s := S3x2048x128) o S1x2048x128.size inb).toLoadRect (v.writes (Elt F) f L) = plane G g := by
  funext j
  show v.read (Elt F) (v.writes (Elt F) f L) _ = _
  rw [View.read_writes_apply_eq_canon v f _ L (cover_of_keys L hk _), View.canon_apply_of_pieces G L hL _ (cover_of_keys L hk _)]
  unfold plane
  congr 1
  have hj0 : (j 0).val = 0 := by have := (j 0).isLt; change (j 0).val < 1 at this; omega
  funext a
  match a with
  | 0 => exact Fin.ext (by show o 0 + 1 * (j 0).val = g.val; omega)
  | 1 => exact Fin.ext (by show o 1 + 1 * (j 1).val = (j 1).val; omega)
  | 2 => exact Fin.ext (by show o 2 + 1 * (j 2).val = (j 2).val; omega)

section Rows

variable {N : ℕ} (v : View sig .tc .vmem ⟨2, ![N, 128]⟩ .f32)

/-- A strided load of 128 rows of a buffer that holds `C` from row `lo` on. -/
theorem load_q (f : v.ty.Contents (Elt F)) (C : ℕ → ℕ → F .f32) (lo n d : ℕ) {o s : Fin 2 → ℕ}
    {inb : ∀ a, S128x128.size a = 0 ∨ o a + s a * (S128x128.size a - 1) < (⟨2, ![N, 128]⟩ : Shape).size a}
    (h : ∀ y : (⟨2, ![N, 128]⟩ : Shape).Idx, lo ≤ (y 0).val → v.read (Elt F) f y = C (y 0).val (y 1).val)
    (h0 : o 0 = n) (h1 : o 1 = 0) (s0 : s 0 = d) (s1 : s 1 = 1) (hlo : lo ≤ n) :
    v.readAt (Elt F) (⟨o, S128x128.size, s, inb⟩ : LoadRect ⟨2, ![N, 128]⟩) f = blkQ C n d := by
  funext j
  refine (h _ ?_).trans ?_
  · show lo ≤ o 0 + s 0 * (j 0).val; rw [h0]; exact hlo.trans (Nat.le_add_right _ _)
  · show C (o 0 + s 0 * (j 0).val) (o 1 + s 1 * (j 1).val) = _
    rw [h0, h1, s0, s1, Nat.zero_add, Nat.one_mul]; rfl

/-- A strided load of 256 rows. -/
theorem load_k (f : v.ty.Contents (Elt F)) (C : ℕ → ℕ → F .f32) (lo n d : ℕ) {o s : Fin 2 → ℕ}
    {inb : ∀ a, S256x128.size a = 0 ∨ o a + s a * (S256x128.size a - 1) < (⟨2, ![N, 128]⟩ : Shape).size a}
    (h : ∀ y : (⟨2, ![N, 128]⟩ : Shape).Idx, lo ≤ (y 0).val → v.read (Elt F) f y = C (y 0).val (y 1).val)
    (h0 : o 0 = n) (h1 : o 1 = 0) (s0 : s 0 = d) (s1 : s 1 = 1) (hlo : lo ≤ n) :
    v.readAt (Elt F) (⟨o, S256x128.size, s, inb⟩ : LoadRect ⟨2, ![N, 128]⟩) f = blkK C n d := by
  funext j
  refine (h _ ?_).trans ?_
  · show lo ≤ o 0 + s 0 * (j 0).val; rw [h0]; exact hlo.trans (Nat.le_add_right _ _)
  · show C (o 0 + s 0 * (j 0).val) (o 1 + s 1 * (j 1).val) = _
    rw [h0, h1, s0, s1, Nat.zero_add, Nat.one_mul]; rfl

/-- What a buffer holds under a last write of `R` whole rows from row `t` on: the payload there. -/
theorem top_rows {R t : ℕ} (f : v.ty.Contents (Elt F)) {inb : ∀ a, (![t, 0] : Fin 2 → ℕ) a + (![R, 128] : Fin 2 → ℕ) a ≤ (⟨2, ![N, 128]⟩ : Shape).size a}
    (w : (⟨2, ![R, 128]⟩ : Shape).Idx → F .f32) (L : List (View.Piece (Elt F) ⟨2, ![N, 128]⟩ .f32)) (C : ℕ → ℕ → F .f32)
    (hw : ∀ x : (⟨2, ![R, 128]⟩ : Shape).Idx, w x = C (t + (x 0).val) (x 1).val) (y : (⟨2, ![N, 128]⟩ : Shape).Idx) (h0 : t ≤ (y 0).val)
    (h1 : (y 0).val < t + R) :
    v.read (Elt F) (v.writes (Elt F) f ((⟨Rect.unit (s := ⟨2, ![N, 128]⟩) ![t, 0] ![R, 128] inb, w⟩ : View.Piece (Elt F) ⟨2, ![N, 128]⟩ .f32) :: L)) y
      = C (y 0).val (y 1).val := by
  refine (View.read_writes_cons_unit_of_mem v f inb w L y (fun a => match a with
    | 0 => ⟨(y 0).val - t, by show _ < R; omega⟩ | 1 => ⟨(y 1).val, (y 1).isLt⟩) rfl (fun a => ?_)).trans ?_
  · match a with
    | 0 => show (y 0).val = t + ((y 0).val - t); omega
    | 1 => show (y 1).val = 0 + (y 1).val; omega
  · rw [hw]; show C (t + ((y 0).val - t)) (y 1).val = _; rw [Nat.add_sub_cancel' h0]

/-- Elsewhere: what was there before it. -/
theorem other_rows {R t : ℕ} (f : v.ty.Contents (Elt F)) {inb : ∀ a, (![t, 0] : Fin 2 → ℕ) a + (![R, 128] : Fin 2 → ℕ) a ≤ (⟨2, ![N, 128]⟩ : Shape).size a}
    (w : (⟨2, ![R, 128]⟩ : Shape).Idx → F .f32) (L : List (View.Piece (Elt F) ⟨2, ![N, 128]⟩ .f32))
    (y : (⟨2, ![N, 128]⟩ : Shape).Idx) (h : (y 0).val < t ∨ t + R ≤ (y 0).val) :
    v.read (Elt F) (v.writes (Elt F) f ((⟨Rect.unit (s := ⟨2, ![N, 128]⟩) ![t, 0] ![R, 128] inb, w⟩ : View.Piece (Elt F) ⟨2, ![N, 128]⟩ .f32) :: L)) y
      = v.read (Elt F) (v.writes (Elt F) f L) y :=
  View.read_writes_cons_unit_of_not_mem v f inb w L y rfl 0 h

end Rows

/-- The columns of the staged block a buffer is filled from, widened. -/
theorem cols (arg3 : Memref sig .tc .vmem S2048x1152 .bf16) (harg3 : arg3.IsWhole) (x : Vec F S2048x1152 .bf16) (c : ℕ) (hc : c + 128 ≤ 1152)
    {inb : ∀ a, (![0, c] : Fin 2 → ℕ) a + S2048x128.size a ≤ S2048x1152.size a} {h1 h2 : S2048x128.ShapeCasts S2048x128} (z : S2048x128.Idx) :
    shapeCast S2048x128 (extf .f32 (shapeCast S2048x128 (View.readAt (Elt F) arg3.view (Rect.unit (s := S2048x1152) ![0, c] S2048x128.size inb).toLoadRect (harg3.unread x)) h1 : FVec F S2048x128 .bf16) bitsLt_bf16_f32) h2 z
      = wide (xat x (z 0).val (c + (z 1).val)) := by
  rw [shapeCast_self]
  refine (congrArg wide (congrFun (shapeCast_self (s := S2048x128) _ h1) z)).trans ?_
  have hz0 : (z 0).val < 2048 := (z 0).isLt
  have hz1 : (z 1).val < 128 := (z 1).isLt
  show wide (arg3.view.read (Elt F) (harg3.unread x) _) = _
  rw [harg3.read_unread]
  unfold xat
  congr 2
  funext a
  match a with
  | 0 => exact Fin.ext (by show 0 + 1 * (z 0).val = (z 0).val % 2048; rw [Nat.mod_eq_of_lt hz0]; omega)
  | 1 => exact Fin.ext (by show c + 1 * (z 1).val = (c + (z 1).val) % 1152; rw [Nat.mod_eq_of_lt (by omega)]; omega)

/-- The scratch of group `g` (keys for `p = 1`, values for `p = 2`) holds the last `128 · dil g` tokens of block `x` in its first rows. -/
def Keep {N : ℕ} (x : Vec F S2048x1152 .bf16) (p g : ℕ) (xs : (⟨2, ![N, 128]⟩ : Shape).Idx → F .f32) : Prop :=
  ∀ z : (⟨2, ![N, 128]⟩ : Shape).Idx, (z 0).val < 128 * dil g →
    xs z = wide (xat x (2048 - 128 * dil g + (z 0).val) (384 * g + 128 * p + (z 1).val))

section Filled

variable {N : ℕ} (v : View sig .tc .vmem ⟨2, ![N, 128]⟩ .f32) (first : Bool) (x y : Vec F S2048x1152 .bf16) (p g : ℕ)

/-- Filled with the block's own tokens above its first rows, a scratch holds `kcon` above them. -/
theorem filled_top {t : ℕ} (ht : t = 128 * dil g) (f : v.ty.Contents (Elt F)) (L : List (View.Piece (Elt F) ⟨2, ![N, 128]⟩ .f32))
    {inb : ∀ a, (![t, 0] : Fin 2 → ℕ) a + (![2048, 128] : Fin 2 → ℕ) a ≤ (⟨2, ![N, 128]⟩ : Shape).size a} (hN : N ≤ t + 2048)
    (w : (⟨2, ![2048, 128]⟩ : Shape).Idx → F .f32)
    (hw : ∀ z : (⟨2, ![2048, 128]⟩ : Shape).Idx, w z = wide (xat x (z 0).val (384 * g + 128 * p + (z 1).val)))
    (z : (⟨2, ![N, 128]⟩ : Shape).Idx) (hz : t ≤ (z 0).val) :
    v.read (Elt F) (v.writes (Elt F) f ((⟨Rect.unit (s := ⟨2, ![N, 128]⟩) ![t, 0] ![2048, 128] inb, w⟩ : View.Piece (Elt F) ⟨2, ![N, 128]⟩ .f32) :: L)) z
      = kcon first x y p g (z 0).val (z 1).val := by
  refine top_rows v f w L (kcon first x y p g) (fun q => ?_) z hz ?_
  · rw [hw]; unfold kcon; rw [if_neg (by omega), show t + (q 0).val - 128 * dil g = (q 0).val by omega]
  · have : (z 0).val < N := (z 0).isLt; omega

/-- With its first rows as `kcon` has them too, it holds `kcon` throughout. -/
theorem filled_all {t : ℕ} (ht : t = 128 * dil g) (f : v.ty.Contents (Elt F)) (L : List (View.Piece (Elt F) ⟨2, ![N, 128]⟩ .f32))
    {inb : ∀ a, (![t, 0] : Fin 2 → ℕ) a + (![2048, 128] : Fin 2 → ℕ) a ≤ (⟨2, ![N, 128]⟩ : Shape).size a} (hN : N ≤ t + 2048)
    (w : (⟨2, ![2048, 128]⟩ : Shape).Idx → F .f32)
    (hw : ∀ z : (⟨2, ![2048, 128]⟩ : Shape).Idx, w z = wide (xat x (z 0).val (384 * g + 128 * p + (z 1).val)))
    (hL : ∀ z : (⟨2, ![N, 128]⟩ : Shape).Idx, (z 0).val < t → v.read (Elt F) (v.writes (Elt F) f L) z = kcon first x y p g (z 0).val (z 1).val)
    (z : (⟨2, ![N, 128]⟩ : Shape).Idx) (hz : 0 ≤ (z 0).val) :
    v.read (Elt F) (v.writes (Elt F) f ((⟨Rect.unit (s := ⟨2, ![N, 128]⟩) ![t, 0] ![2048, 128] inb, w⟩ : View.Piece (Elt F) ⟨2, ![N, 128]⟩ .f32) :: L)) z
      = kcon first x y p g (z 0).val (z 1).val := by
  by_cases h : (z 0).val < t
  · rw [other_rows v f w L z (Or.inl h)]; exact hL z h
  · exact filled_top v first x y p g ht f L hN w hw z (Nat.not_lt.1 h)

/-- The first rows at a later block of a sequence are the block before's last tokens. -/
theorem low_later {t : ℕ} (ht : t = 128 * dil g) (f : v.ty.Contents (Elt F)) (h : Keep y p g (v.read (Elt F) f))
    (z : (⟨2, ![N, 128]⟩ : Shape).Idx) (hz : (z 0).val < t) :
    v.read (Elt F) (v.writes (Elt F) f []) z = kcon false x y p g (z 0).val (z 1).val := by
  rw [View.writes_nil, h z (by omega)]; unfold kcon; rw [if_pos (by omega)]; rfl

/-- The first rows at a sequence's first block are zeros. -/
theorem low_first {t : ℕ} (ht : t = 128 * dil g) (f : v.ty.Contents (Elt F)) (L : List (View.Piece (Elt F) ⟨2, ![N, 128]⟩ .f32))
    {inb : ∀ a, (![0, 0] : Fin 2 → ℕ) a + (![t, 128] : Fin 2 → ℕ) a ≤ (⟨2, ![N, 128]⟩ : Shape).size a}
    (w : (⟨2, ![t, 128]⟩ : Shape).Idx → F .f32) (hw : ∀ z : (⟨2, ![t, 128]⟩ : Shape).Idx, w z = zero32)
    (z : (⟨2, ![N, 128]⟩ : Shape).Idx) (hz : (z 0).val < t) :
    v.read (Elt F) (v.writes (Elt F) f ((⟨Rect.unit (s := ⟨2, ![N, 128]⟩) ![0, 0] ![t, 128] inb, w⟩ : View.Piece (Elt F) ⟨2, ![N, 128]⟩ .f32) :: L)) z
      = kcon true x y p g (z 0).val (z 1).val := by
  refine (top_rows v f w L (fun _ _ => zero32) hw z (Nat.zero_le _) (by omega)).trans ?_
  unfold kcon; rw [if_pos (by omega)]; rfl

/-- The body's last move: the block's last tokens become the scratch's first rows. -/
theorem keep_of_move {t : ℕ} (ht : t = 128 * dil g) (ht' : t ≤ 2048) (f f' : v.ty.Contents (Elt F)) (L : List (View.Piece (Elt F) ⟨2, ![N, 128]⟩ .f32))
    {inb : ∀ a, (![0, 0] : Fin 2 → ℕ) a + (![t, 128] : Fin 2 → ℕ) a ≤ (⟨2, ![N, 128]⟩ : Shape).size a}
    {inb' : ∀ a, (![2048, 0] : Fin 2 → ℕ) a + (![t, 128] : Fin 2 → ℕ) a ≤ (⟨2, ![N, 128]⟩ : Shape).size a}
    {hc : (⟨2, ![t, 128]⟩ : Shape).ShapeCasts ⟨2, ![t, 128]⟩}
    (hf : ∀ z : (⟨2, ![N, 128]⟩ : Shape).Idx, t ≤ (z 0).val → v.read (Elt F) f' z = kcon first x y p g (z 0).val (z 1).val) :
    Keep x p g (v.read (Elt F) (v.writes (Elt F) f ((⟨Rect.unit (s := ⟨2, ![N, 128]⟩) ![0, 0] ![t, 128] inb,
      shapeCast (⟨2, ![t, 128]⟩ : Shape) (v.readAt (Elt F) (Rect.unit (s := ⟨2, ![N, 128]⟩) ![2048, 0] ![t, 128] inb').toLoadRect f') hc⟩
        : View.Piece (Elt F) ⟨2, ![N, 128]⟩ .f32) :: L))) := by
  intro z hz
  refine (top_rows v f _ L (fun ρ l => wide (xat x (2048 - 128 * dil g + ρ) (384 * g + 128 * p + l))) (fun q => ?_) z (Nat.zero_le _) (by omega)).trans rfl
  refine (congrFun (shapeCast_self (s := ⟨2, ![t, 128]⟩) _ hc) q).trans ?_
  refine (hf _ ?_).trans ?_
  · show t ≤ 2048 + 1 * (q 0).val; omega
  · show kcon first x y p g (2048 + 1 * (q 0).val) (0 + 1 * (q 1).val) = _
    unfold kcon
    rw [if_neg (by omega), show 2048 + 1 * (q 0).val - 128 * dil g = 2048 - 128 * dil g + (0 + (q 0).val) by omega, Nat.one_mul, Nat.zero_add, Nat.zero_add]

end Filled

end Cert.KernelIdeal.Body
-- ==== Proof.SwaRunA.lean ====
/- The attention kernel's body run once, at the first block of a sequence, for any contents of its scratch and at any float instance. -/
module

public import proofs.«01_k».proof.Proof.SwaRuns

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- AT THE FIRST BLOCK OF A SEQUENCE. The body runs to its end from the staged input block `x0` and whatever the scratch holds (`xs·`), leaving the input
    block as it was; the output block and each scratch end with the pieces listed here written over them (last first): the witness
    is found by running the body's memory operations in order. -/
noncomputable def runA (c : Dev nD) (i : grid0.Coords) (arg3 : Memref sig .tc .vmem S2048x1152 .bf16) (harg3 : arg3.IsWhole) (arg4 : Memref sig .tc .vmem S2048x128 .bf16) (harg4 : arg4.IsWhole)
    (arg5 : Memref sig .tc .vmem S2048x128 .f32) (harg5 : arg5.IsWhole) (arg6 : Memref sig .tc .vmem S2176x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S2176x128 .f32) (harg9 : arg9.IsWhole) (arg10 : Memref sig .tc .vmem S2560x128 .f32) (harg10 : arg10.IsWhole) (arg11 : Memref sig .tc .vmem S4096x128 .f32) (harg11 : arg11.IsWhole) (arg12 : Memref sig .tc .vmem S3x2048x128 .f32) (harg12 : arg12.IsWhole) (arg13 : Memref sig .tc .vmem S3x2048x128 .f32) (harg13 : arg13.IsWhole) (hc : cond0_0 i)
    (x0 : Vec F S2048x1152 .bf16) (xs0 : Vec F S2048x128 .f32) (xs1 : Vec F S2176x128 .f32) (xs2 : Vec F S2560x128 .f32) (xs3 : Vec F S4096x128 .f32) (xs4 : Vec F S2176x128 .f32) (xs5 : Vec F S2560x128 .f32) (xs6 : Vec F S4096x128 .f32) (xs7 : Vec F S3x2048x128 .f32) (xs8 : Vec F S3x2048x128 .f32) :
    Σ' (L1 : List (View.Piece (Elt F) S2048x128 .bf16)), Σ' (LS0 : List (View.Piece (Elt F) S2048x128 .f32)), Σ' (LS1 : List (View.Piece (Elt F) S2176x128 .f32)), Σ' (LS2 : List (View.Piece (Elt F) S2560x128 .f32)), Σ' (LS3 : List (View.Piece (Elt F) S4096x128 .f32)), Σ' (LS4 : List (View.Piece (Elt F) S2176x128 .f32)), Σ' (LS5 : List (View.Piece (Elt F) S2560x128 .f32)), Σ' (LS6 : List (View.Piece (Elt F) S4096x128 .f32)), Σ' (LS7 : List (View.Piece (Elt F) S3x2048x128 .f32)), { LS8 : List (View.Piece (Elt F) S3x2048x128 .f32) //
      ∀ (E : Set ℕ) (K : PUnit → sProp 𝕄),
        iprop(owns (c : Thread nD τ) arg3 fullShare x0 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4 ∗ owns (c : Thread nD τ) arg10 fullShare xs5 ∗ owns (c : Thread nD τ) arg11 fullShare xs6 ∗ owns (c : Thread nD τ) arg12 fullShare xs7 ∗ owns (c : Thread nD τ) arg13 fullShare xs8
            ∗ (iprop(owns (c : Thread nD τ) arg3 fullShare x0 ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3) ∗ (∃ f, arg9.view.loc (c : Thread nD τ) ↦[arg9.view.set]{fullShare} arg9.view.writes (Elt F) f LS4) ∗ (∃ f, arg10.view.loc (c : Thread nD τ) ↦[arg10.view.set]{fullShare} arg10.view.writes (Elt F) f LS5) ∗ (∃ f, arg11.view.loc (c : Thread nD τ) ↦[arg11.view.set]{fullShare} arg11.view.writes (Elt F) f LS6) ∗ (∃ f, arg12.view.loc (c : Thread nD τ) ↦[arg12.view.set]{fullShare} arg12.view.writes (Elt F) f LS7) ∗ (∃ f, arg13.view.loc (c : Thread nD τ) ↦[arg13.view.set]{fullShare} arg13.view.writes (Elt F) f LS8)) -∗ K ⟨⟩))
          ⊢ wp frame (wpE (defs₀ (F := F)) Variants.none c none) E (cc0_swa i arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, ?_, ?_, fun E K => ?run⟩
  case run =>
    simp only [cc0_swa_eq_skeleton]; unfold cc0_swa_skel
    simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%d1, %f1, -, H1⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, Hk⟩
    obtain rfl := harg3.eq_unread hf0; obtain rfl := harg5.eq_unread hfs0; obtain rfl := harg6.eq_unread hfs1; obtain rfl := harg7.eq_unread hfs2; obtain rfl := harg8.eq_unread hfs3; obtain rfl := harg9.eq_unread hfs4; obtain rfl := harg10.eq_unread hfs5; obtain rfl := harg11.eq_unread hfs6; obtain rfl := harg12.eq_unread hfs7; obtain rfl := harg13.eq_unread hfs8
    sl_exec (disch := sl_exact hc)
    sl_step
    iapply Hk
    isplitl [H0]
    · iexists _; isplitr; · ipureintro; exact harg3.read_unread _
      iexact H0
    isplitl [H1]; · iexists _; iexact H1
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Body

end
-- ==== Proof.SwaValA.lean ====
/- What one run of the attention kernel's body leaves at the first block of a sequence: the output block `outF` of the
   block it is at, and in its scratch the block's last tokens. -/
module

public import proofs.«01_k».proof.Proof.SwaParts
public import proofs.«01_k».proof.Proof.SwaRunA

@[expose] public section

set_option maxRecDepth 200000

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

namespace First

variable (c : Dev nD) (i : grid0.Coords)
  {arg3 : Memref sig .tc .vmem S2048x1152 .bf16} (harg3 : arg3.IsWhole) {arg4 : Memref sig .tc .vmem S2048x128 .bf16} (harg4 : arg4.IsWhole)
  {arg5 : Memref sig .tc .vmem S2048x128 .f32} (harg5 : arg5.IsWhole) {arg6 : Memref sig .tc .vmem S2176x128 .f32} (harg6 : arg6.IsWhole)
  {arg7 : Memref sig .tc .vmem S2560x128 .f32} (harg7 : arg7.IsWhole) {arg8 : Memref sig .tc .vmem S4096x128 .f32} (harg8 : arg8.IsWhole)
  {arg9 : Memref sig .tc .vmem S2176x128 .f32} (harg9 : arg9.IsWhole) {arg10 : Memref sig .tc .vmem S2560x128 .f32} (harg10 : arg10.IsWhole)
  {arg11 : Memref sig .tc .vmem S4096x128 .f32} (harg11 : arg11.IsWhole) {arg12 : Memref sig .tc .vmem S3x2048x128 .f32} (harg12 : arg12.IsWhole)
  {arg13 : Memref sig .tc .vmem S3x2048x128 .f32} (harg13 : arg13.IsWhole)
  {x : Vec F S2048x1152 .bf16} (y : Vec F S2048x1152 .bf16) {xs1 : Vec F S2176x128 .f32} {xs2 : Vec F S2560x128 .f32} {xs3 : Vec F S4096x128 .f32}
  {xs4 : Vec F S2176x128 .f32} {xs5 : Vec F S2560x128 .f32} {xs6 : Vec F S4096x128 .f32} (xs7 xs8 : Vec F S3x2048x128 .f32)

theorem q0 (f : arg5.view.ty.Contents (Elt F)) (z : S2048x128.Idx) (_ : 0 ≤ (z 0).val) :
    arg5.view.read (Elt F) (arg5.view.writes (Elt F) f (runA.sl.HS0_1 c arg3 harg3 x)) z = qcon x 0 (z 0).val (z 1).val :=
  top_rows arg5.view f _ _ (qcon x 0) (fun z => by rw [Nat.zero_add]; exact cols arg3 harg3 x 0 (by decide) z) z (Nat.zero_le _) (by have := (z 0).isLt; change _ < 2048 at this; omega)
theorem q1 (f : arg5.view.ty.Contents (Elt F)) (z : S2048x128.Idx) (_ : 0 ≤ (z 0).val) :
    arg5.view.read (Elt F) (arg5.view.writes (Elt F) f (runA.sl.HS0_2 c arg3 harg3 x)) z = qcon x 1 (z 0).val (z 1).val :=
  top_rows arg5.view f _ _ (qcon x 1) (fun z => by rw [Nat.zero_add]; exact cols arg3 harg3 x 384 (by decide) z) z (Nat.zero_le _) (by have := (z 0).isLt; change _ < 2048 at this; omega)
theorem q2 (f : arg5.view.ty.Contents (Elt F)) (z : S2048x128.Idx) (_ : 0 ≤ (z 0).val) :
    arg5.view.read (Elt F) (arg5.view.writes (Elt F) f (runA.sl.HS0_3 c arg3 harg3 x)) z = qcon x 2 (z 0).val (z 1).val :=
  top_rows arg5.view f _ _ (qcon x 2) (fun z => by rw [Nat.zero_add]; exact cols arg3 harg3 x 768 (by decide) z) z (Nat.zero_le _) (by have := (z 0).isLt; change _ < 2048 at this; omega)

theorem k0 (f : arg6.view.ty.Contents (Elt F)) (z : S2176x128.Idx) (hz : 0 ≤ (z 0).val) :
    arg6.view.read (Elt F) (arg6.view.writes (Elt F) f (runA.sl.HS1_2 c arg3 harg3 x)) z = kcon true x y 1 0 (z 0).val (z 1).val :=
  filled_all arg6.view true x y 1 0 rfl _ _ (by decide) _ (cols arg3 harg3 x 128 (by decide)) (low_first _ _ _ _ _ rfl _ _ _ fun _ => rfl) z hz

theorem k1 (f : arg7.view.ty.Contents (Elt F)) (z : S2560x128.Idx) (hz : 0 ≤ (z 0).val) :
    arg7.view.read (Elt F) (arg7.view.writes (Elt F) f (runA.sl.HS2_2 c arg3 harg3 x)) z = kcon true x y 1 1 (z 0).val (z 1).val :=
  filled_all arg7.view true x y 1 1 rfl _ _ (by decide) _ (cols arg3 harg3 x 512 (by decide)) (low_first _ _ _ _ _ rfl _ _ _ fun _ => rfl) z hz

theorem k2 (f : arg8.view.ty.Contents (Elt F)) (z : S4096x128.Idx) (hz : 0 ≤ (z 0).val) :
    arg8.view.read (Elt F) (arg8.view.writes (Elt F) f (runA.sl.HS3_2 c arg3 harg3 x)) z = kcon true x y 1 2 (z 0).val (z 1).val :=
  filled_all arg8.view true x y 1 2 rfl _ _ (by decide) _ (cols arg3 harg3 x 896 (by decide)) (low_first _ _ _ _ _ rfl _ _ _ fun _ => rfl) z hz

theorem v0 (f : arg9.view.ty.Contents (Elt F)) (z : S2176x128.Idx) (hz : 0 ≤ (z 0).val) :
    arg9.view.read (Elt F) (arg9.view.writes (Elt F) f (runA.sl.HS4_2 c arg3 harg3 x)) z = kcon true x y 2 0 (z 0).val (z 1).val :=
  filled_all arg9.view true x y 2 0 rfl _ _ (by decide) _ (cols arg3 harg3 x 256 (by decide)) (low_first _ _ _ _ _ rfl _ _ _ fun _ => rfl) z hz

theorem v1 (f : arg10.view.ty.Contents (Elt F)) (z : S2560x128.Idx) (hz : 0 ≤ (z 0).val) :
    arg10.view.read (Elt F) (arg10.view.writes (Elt F) f (runA.sl.HS5_2 c arg3 harg3 x)) z = kcon true x y 2 1 (z 0).val (z 1).val :=
  filled_all arg10.view true x y 2 1 rfl _ _ (by decide) _ (cols arg3 harg3 x 640 (by decide)) (low_first _ _ _ _ _ rfl _ _ _ fun _ => rfl) z hz

theorem v2 (f : arg11.view.ty.Contents (Elt F)) (z : S4096x128.Idx) (hz : 0 ≤ (z 0).val) :
    arg11.view.read (Elt F) (arg11.view.writes (Elt F) f (runA.sl.HS6_2 c arg3 harg3 x)) z = kcon true x y 2 2 (z 0).val (z 1).val :=
  filled_all arg11.view true x y 2 2 rfl _ _ (by decide) _ (cols arg3 harg3 x 1024 (by decide)) (low_first _ _ _ _ _ rfl _ _ _ fun _ => rfl) z hz

set_option maxHeartbeats 4000000 in
/-- Every tile of outputs the body writes is the tile of the function named. -/
theorem tilesO :
    ∀ p ∈ runA.sl.HS7_48 c i arg3 harg3 arg5 arg6 arg7 arg8 arg9 arg10 arg11 x,
      ∀ z : p.1.shape.Idx, p.2 z = tileF payO i (qcon x) (kcon true x y 1) (kcon true x y 2) (p.1.emb z) := by
  unfold runA.sl.HS7_48 runA.sl.HS7_34
  iterate 16
    refine List.forall_mem_cons.2 ⟨?_, ?_⟩
    · exact tile_piece payO i _ _ _ 2 _ rfl rfl rfl rfl rfl (by decide) rfl rfl (load_q _ _ _ 0 _ _ (q2 c harg3 _) rfl rfl rfl rfl (Nat.zero_le _))
        (load_k _ _ _ 0 _ _ (k2 c harg3 y _) rfl rfl rfl rfl (Nat.zero_le _)) (load_k _ _ _ 0 _ _ (v2 c harg3 y _) rfl rfl rfl rfl (Nat.zero_le _))
  iterate 16
    refine List.forall_mem_cons.2 ⟨?_, ?_⟩
    · exact tile_piece payO i _ _ _ 1 _ rfl rfl rfl rfl rfl (by decide) rfl rfl (load_q _ _ _ 0 _ _ (q1 c harg3 _) rfl rfl rfl rfl (Nat.zero_le _))
        (load_k _ _ _ 0 _ _ (k1 c harg3 y _) rfl rfl rfl rfl (Nat.zero_le _)) (load_k _ _ _ 0 _ _ (v1 c harg3 y _) rfl rfl rfl rfl (Nat.zero_le _))
  iterate 16
    refine List.forall_mem_cons.2 ⟨?_, ?_⟩
    · exact tile_piece payO i _ _ _ 0 _ rfl rfl rfl rfl rfl (by decide) rfl rfl (load_q _ _ _ 0 _ _ (q0 c harg3 _) rfl rfl rfl rfl (Nat.zero_le _))
        (load_k _ _ _ 0 _ _ (k0 c harg3 y _) rfl rfl rfl rfl (Nat.zero_le _)) (load_k _ _ _ 0 _ _ (v0 c harg3 y _) rfl rfl rfl rfl (Nat.zero_le _))
  exact fun p hp => absurd hp List.not_mem_nil

theorem keysO : (runA.sl.HS7_48 c i arg3 harg3 arg5 arg6 arg7 arg8 arg9 arg10 arg11 x).map key = keys.reverse := rfl

set_option maxHeartbeats 4000000 in
/-- Every tile of log denominators likewise. -/
theorem tilesL :
    ∀ p ∈ runA.sl.HS8_48 c i arg3 harg3 arg5 arg6 arg7 arg8 arg9 arg10 arg11 x,
      ∀ z : p.1.shape.Idx, p.2 z = tileF payL i (qcon x) (kcon true x y 1) (kcon true x y 2) (p.1.emb z) := by
  unfold runA.sl.HS8_48 runA.sl.HS8_44
  iterate 16
    refine List.forall_mem_cons.2 ⟨?_, ?_⟩
    · exact tile_piece payL i _ _ _ 2 _ rfl rfl rfl rfl rfl (by decide) rfl rfl (load_q _ _ _ 0 _ _ (q2 c harg3 _) rfl rfl rfl rfl (Nat.zero_le _))
        (load_k _ _ _ 0 _ _ (k2 c harg3 y _) rfl rfl rfl rfl (Nat.zero_le _)) (load_k _ _ _ 0 _ _ (v2 c harg3 y _) rfl rfl rfl rfl (Nat.zero_le _))
  iterate 16
    refine List.forall_mem_cons.2 ⟨?_, ?_⟩
    · exact tile_piece payL i _ _ _ 1 _ rfl rfl rfl rfl rfl (by decide) rfl rfl (load_q _ _ _ 0 _ _ (q1 c harg3 _) rfl rfl rfl rfl (Nat.zero_le _))
        (load_k _ _ _ 0 _ _ (k1 c harg3 y _) rfl rfl rfl rfl (Nat.zero_le _)) (load_k _ _ _ 0 _ _ (v1 c harg3 y _) rfl rfl rfl rfl (Nat.zero_le _))
  iterate 16
    refine List.forall_mem_cons.2 ⟨?_, ?_⟩
    · exact tile_piece payL i _ _ _ 0 _ rfl rfl rfl rfl rfl (by decide) rfl rfl (load_q _ _ _ 0 _ _ (q0 c harg3 _) rfl rfl rfl rfl (Nat.zero_le _))
        (load_k _ _ _ 0 _ _ (k0 c harg3 y _) rfl rfl rfl rfl (Nat.zero_le _)) (load_k _ _ _ 0 _ _ (v0 c harg3 y _) rfl rfl rfl rfl (Nat.zero_le _))
  exact fun p hp => absurd hp List.not_mem_nil

theorem keysL : (runA.sl.HS8_48 c i arg3 harg3 arg5 arg6 arg7 arg8 arg9 arg10 arg11 x).map key = keys.reverse := rfl

/-- The planes the last step loads. -/
theorem plO (f : arg12.view.ty.Contents (Elt F)) (g : Fin 3) {o : Fin 3 → ℕ} (inb : ∀ a, o a + S1x2048x128.size a ≤ S3x2048x128.size a) (e0 : o 0 = g.val) (e1 : o 1 = 0) (e2 : o 2 = 0) :
    arg12.view.readAt (Elt F) (Rect.unit (s := S3x2048x128) o S1x2048x128.size inb).toLoadRect (arg12.view.writes (Elt F) f (runA.sl.HS7_48 c i arg3 harg3 arg5 arg6 arg7 arg8 arg9 arg10 arg11 x))
      = plane (tileF payO i (qcon x) (kcon true x y 1) (kcon true x y 2)) g :=
  read_plane arg12.view f _ _ (tilesO c i harg3 y) (keysO c i harg3) g inb e0 e1 e2

theorem plL (f : arg13.view.ty.Contents (Elt F)) (g : Fin 3) {o : Fin 3 → ℕ} (inb : ∀ a, o a + S1x2048x128.size a ≤ S3x2048x128.size a) (e0 : o 0 = g.val) (e1 : o 1 = 0) (e2 : o 2 = 0) :
    arg13.view.readAt (Elt F) (Rect.unit (s := S3x2048x128) o S1x2048x128.size inb).toLoadRect (arg13.view.writes (Elt F) f (runA.sl.HS8_48 c i arg3 harg3 arg5 arg6 arg7 arg8 arg9 arg10 arg11 x))
      = plane (tileF payL i (qcon x) (kcon true x y 1) (kcon true x y 2)) g :=
  read_plane arg13.view f _ _ (tilesL c i harg3 y) (keysL c i harg3) g inb e0 e1 e2

/-- THE OUTPUT BLOCK: what the body's one write to it carries. -/
theorem out (hc : cond0_0 i) (xs0 : Vec F S2048x128 .f32) (f : arg4.view.ty.Contents (Elt F)) :
    arg4.view.read (Elt F) (arg4.view.writes (Elt F) f
        (runA c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).1)
      = outF true i x y := by
  refine (View.read_writes_full (s := S2048x128) arg4.view f inb_S2048x128_S2048x128_0_0 _ []).trans ?_
  have o0 := plO c i harg3 y (x := x) (arg5 := arg5) (arg6 := arg6) (arg7 := arg7) (arg8 := arg8) (arg9 := arg9) (arg10 := arg10) (arg11 := arg11) (arg12 := arg12) arg12.view.junk 0 inb_S3x2048x128_S1x2048x128_0_0_0 rfl rfl rfl
  have o1 := plO c i harg3 y (x := x) (arg5 := arg5) (arg6 := arg6) (arg7 := arg7) (arg8 := arg8) (arg9 := arg9) (arg10 := arg10) (arg11 := arg11) (arg12 := arg12) (harg12.unread xs7) 1 inb_S3x2048x128_S1x2048x128_1_0_0 rfl rfl rfl
  have o2 := plO c i harg3 y (x := x) (arg5 := arg5) (arg6 := arg6) (arg7 := arg7) (arg8 := arg8) (arg9 := arg9) (arg10 := arg10) (arg11 := arg11) (arg12 := arg12) (harg12.unread xs7) 2 inb_S3x2048x128_S1x2048x128_2_0_0 rfl rfl rfl
  have l0 := plL c i harg3 y (x := x) (arg5 := arg5) (arg6 := arg6) (arg7 := arg7) (arg8 := arg8) (arg9 := arg9) (arg10 := arg10) (arg11 := arg11) (arg13 := arg13) arg13.view.junk 0 inb_S3x2048x128_S1x2048x128_0_0_0 rfl rfl rfl
  have l1 := plL c i harg3 y (x := x) (arg5 := arg5) (arg6 := arg6) (arg7 := arg7) (arg8 := arg8) (arg9 := arg9) (arg10 := arg10) (arg11 := arg11) (arg13 := arg13) (harg13.unread xs8) 1 inb_S3x2048x128_S1x2048x128_1_0_0 rfl rfl rfl
  have l2 := plL c i harg3 y (x := x) (arg5 := arg5) (arg6 := arg6) (arg7 := arg7) (arg8 := arg8) (arg9 := arg9) (arg10 := arg10) (arg11 := arg11) (arg13 := arg13) (harg13.unread xs8) 2 inb_S3x2048x128_S1x2048x128_2_0_0 rfl rfl rfl
  rw [outF_eq, ← o0, ← o1, ← o2, ← l0, ← l1, ← l2]
  rfl

theorem keep1 (hc : cond0_0 i) (xs0 : Vec F S2048x128 .f32) (f : arg6.view.ty.Contents (Elt F)) :
    Keep x 1 0 (arg6.view.read (Elt F) (arg6.view.writes (Elt F) f
      (runA c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).2.2.1)) :=
  keep_of_move arg6.view true x x 1 0 rfl (by decide) f _ _ fun z _ => k0 c harg3 x _ z (Nat.zero_le _)
theorem keep2 (hc : cond0_0 i) (xs0 : Vec F S2048x128 .f32) (f : arg7.view.ty.Contents (Elt F)) :
    Keep x 1 1 (arg7.view.read (Elt F) (arg7.view.writes (Elt F) f
      (runA c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).2.2.2.1)) :=
  keep_of_move arg7.view true x x 1 1 rfl (by decide) f _ _ fun z _ => k1 c harg3 x _ z (Nat.zero_le _)
theorem keep3 (hc : cond0_0 i) (xs0 : Vec F S2048x128 .f32) (f : arg8.view.ty.Contents (Elt F)) :
    Keep x 1 2 (arg8.view.read (Elt F) (arg8.view.writes (Elt F) f
      (runA c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).2.2.2.2.1)) :=
  keep_of_move arg8.view true x x 1 2 rfl (by decide) f _ _ fun z _ => k2 c harg3 x _ z (Nat.zero_le _)
theorem keep4 (hc : cond0_0 i) (xs0 : Vec F S2048x128 .f32) (f : arg9.view.ty.Contents (Elt F)) :
    Keep x 2 0 (arg9.view.read (Elt F) (arg9.view.writes (Elt F) f
      (runA c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).2.2.2.2.2.1)) :=
  keep_of_move arg9.view true x x 2 0 rfl (by decide) f _ _ fun z _ => v0 c harg3 x _ z (Nat.zero_le _)
theorem keep5 (hc : cond0_0 i) (xs0 : Vec F S2048x128 .f32) (f : arg10.view.ty.Contents (Elt F)) :
    Keep x 2 1 (arg10.view.read (Elt F) (arg10.view.writes (Elt F) f
      (runA c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).2.2.2.2.2.2.1)) :=
  keep_of_move arg10.view true x x 2 1 rfl (by decide) f _ _ fun z _ => v1 c harg3 x _ z (Nat.zero_le _)
theorem keep6 (hc : cond0_0 i) (xs0 : Vec F S2048x128 .f32) (f : arg11.view.ty.Contents (Elt F)) :
    Keep x 2 2 (arg11.view.read (Elt F) (arg11.view.writes (Elt F) f
      (runA c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).2.2.2.2.2.2.2.1)) :=
  keep_of_move arg11.view true x x 2 2 rfl (by decide) f _ _ fun z _ => v2 c harg3 x _ z (Nat.zero_le _)

end First

end Cert.KernelIdeal.Body
-- ==== Proof.SwaRunB.lean ====
/- The attention kernel's body run once, at a later block of a sequence, for any contents of its scratch and at any float instance. -/
module

public import proofs.«01_k».proof.Proof.SwaRunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- AT A LATER BLOCK OF A SEQUENCE. The body runs to its end from the staged input block `x0` and whatever the scratch holds (`xs·`), leaving the input
    block as it was; the output block and each scratch end with the pieces listed here written over them (last first): the witness
    is found by running the body's memory operations in order. -/
noncomputable def runB (c : Dev nD) (i : grid0.Coords) (arg3 : Memref sig .tc .vmem S2048x1152 .bf16) (harg3 : arg3.IsWhole) (arg4 : Memref sig .tc .vmem S2048x128 .bf16) (harg4 : arg4.IsWhole)
    (arg5 : Memref sig .tc .vmem S2048x128 .f32) (harg5 : arg5.IsWhole) (arg6 : Memref sig .tc .vmem S2176x128 .f32) (harg6 : arg6.IsWhole) (arg7 : Memref sig .tc .vmem S2560x128 .f32) (harg7 : arg7.IsWhole) (arg8 : Memref sig .tc .vmem S4096x128 .f32) (harg8 : arg8.IsWhole) (arg9 : Memref sig .tc .vmem S2176x128 .f32) (harg9 : arg9.IsWhole) (arg10 : Memref sig .tc .vmem S2560x128 .f32) (harg10 : arg10.IsWhole) (arg11 : Memref sig .tc .vmem S4096x128 .f32) (harg11 : arg11.IsWhole) (arg12 : Memref sig .tc .vmem S3x2048x128 .f32) (harg12 : arg12.IsWhole) (arg13 : Memref sig .tc .vmem S3x2048x128 .f32) (harg13 : arg13.IsWhole) (hc : ¬cond0_0 i)
    (x0 : Vec F S2048x1152 .bf16) (xs0 : Vec F S2048x128 .f32) (xs1 : Vec F S2176x128 .f32) (xs2 : Vec F S2560x128 .f32) (xs3 : Vec F S4096x128 .f32) (xs4 : Vec F S2176x128 .f32) (xs5 : Vec F S2560x128 .f32) (xs6 : Vec F S4096x128 .f32) (xs7 : Vec F S3x2048x128 .f32) (xs8 : Vec F S3x2048x128 .f32) :
    Σ' (L1 : List (View.Piece (Elt F) S2048x128 .bf16)), Σ' (LS0 : List (View.Piece (Elt F) S2048x128 .f32)), Σ' (LS1 : List (View.Piece (Elt F) S2176x128 .f32)), Σ' (LS2 : List (View.Piece (Elt F) S2560x128 .f32)), Σ' (LS3 : List (View.Piece (Elt F) S4096x128 .f32)), Σ' (LS4 : List (View.Piece (Elt F) S2176x128 .f32)), Σ' (LS5 : List (View.Piece (Elt F) S2560x128 .f32)), Σ' (LS6 : List (View.Piece (Elt F) S4096x128 .f32)), Σ' (LS7 : List (View.Piece (Elt F) S3x2048x128 .f32)), { LS8 : List (View.Piece (Elt F) S3x2048x128 .f32) //
      ∀ (E : Set ℕ) (K : PUnit → sProp 𝕄),
        iprop(owns (c : Thread nD τ) arg3 fullShare x0 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4 ∗ owns (c : Thread nD τ) arg10 fullShare xs5 ∗ owns (c : Thread nD τ) arg11 fullShare xs6 ∗ owns (c : Thread nD τ) arg12 fullShare xs7 ∗ owns (c : Thread nD τ) arg13 fullShare xs8
            ∗ (iprop(owns (c : Thread nD τ) arg3 fullShare x0 ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3) ∗ (∃ f, arg9.view.loc (c : Thread nD τ) ↦[arg9.view.set]{fullShare} arg9.view.writes (Elt F) f LS4) ∗ (∃ f, arg10.view.loc (c : Thread nD τ) ↦[arg10.view.set]{fullShare} arg10.view.writes (Elt F) f LS5) ∗ (∃ f, arg11.view.loc (c : Thread nD τ) ↦[arg11.view.set]{fullShare} arg11.view.writes (Elt F) f LS6) ∗ (∃ f, arg12.view.loc (c : Thread nD τ) ↦[arg12.view.set]{fullShare} arg12.view.writes (Elt F) f LS7) ∗ (∃ f, arg13.view.loc (c : Thread nD τ) ↦[arg13.view.set]{fullShare} arg13.view.writes (Elt F) f LS8)) -∗ K ⟨⟩))
          ⊢ wp frame (wpE (defs₀ (F := F)) Variants.none c none) E (cc0_swa i arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, ?_, ?_, fun E K => ?run⟩
  case run =>
    simp only [cc0_swa_eq_skeleton]; unfold cc0_swa_skel
    simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%d1, %f1, -, H1⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, Hk⟩
    obtain rfl := harg3.eq_unread hf0; obtain rfl := harg5.eq_unread hfs0; obtain rfl := harg6.eq_unread hfs1; obtain rfl := harg7.eq_unread hfs2; obtain rfl := harg8.eq_unread hfs3; obtain rfl := harg9.eq_unread hfs4; obtain rfl := harg10.eq_unread hfs5; obtain rfl := harg11.eq_unread hfs6; obtain rfl := harg12.eq_unread hfs7; obtain rfl := harg13.eq_unread hfs8
    sl_exec (disch := sl_exact hc)
    sl_step
    iapply Hk
    isplitl [H0]
    · iexists _; isplitr; · ipureintro; exact harg3.read_unread _
      iexact H0
    isplitl [H1]; · iexists _; iexact H1
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Body

end
-- ==== Proof.SwaValB.lean ====
/- What one run of the attention kernel's body leaves at a later block of a sequence: the output block `outF` of the block it is
   at and the block before it, and in its scratch the block's last tokens. -/
module

public import proofs.«01_k».proof.Proof.SwaParts
public import proofs.«01_k».proof.Proof.SwaRunB

@[expose] public section

set_option maxRecDepth 200000

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

namespace Later

variable (c : Dev nD) (i : grid0.Coords)
  {arg3 : Memref sig .tc .vmem S2048x1152 .bf16} (harg3 : arg3.IsWhole) {arg4 : Memref sig .tc .vmem S2048x128 .bf16} (harg4 : arg4.IsWhole)
  {arg5 : Memref sig .tc .vmem S2048x128 .f32} (harg5 : arg5.IsWhole) {arg6 : Memref sig .tc .vmem S2176x128 .f32} (harg6 : arg6.IsWhole)
  {arg7 : Memref sig .tc .vmem S2560x128 .f32} (harg7 : arg7.IsWhole) {arg8 : Memref sig .tc .vmem S4096x128 .f32} (harg8 : arg8.IsWhole)
  {arg9 : Memref sig .tc .vmem S2176x128 .f32} (harg9 : arg9.IsWhole) {arg10 : Memref sig .tc .vmem S2560x128 .f32} (harg10 : arg10.IsWhole)
  {arg11 : Memref sig .tc .vmem S4096x128 .f32} (harg11 : arg11.IsWhole) {arg12 : Memref sig .tc .vmem S3x2048x128 .f32} (harg12 : arg12.IsWhole)
  {arg13 : Memref sig .tc .vmem S3x2048x128 .f32} (harg13 : arg13.IsWhole)
  {x y : Vec F S2048x1152 .bf16} {xs1 : Vec F S2176x128 .f32} {xs2 : Vec F S2560x128 .f32} {xs3 : Vec F S4096x128 .f32}
  {xs4 : Vec F S2176x128 .f32} {xs5 : Vec F S2560x128 .f32} {xs6 : Vec F S4096x128 .f32} (xs7 xs8 : Vec F S3x2048x128 .f32)

theorem q0 (f : arg5.view.ty.Contents (Elt F)) (z : S2048x128.Idx) (_ : 0 ≤ (z 0).val) :
    arg5.view.read (Elt F) (arg5.view.writes (Elt F) f (runB.sl.HS0_1 c arg3 harg3 x)) z = qcon x 0 (z 0).val (z 1).val :=
  top_rows arg5.view f _ _ (qcon x 0) (fun z => by rw [Nat.zero_add]; exact cols arg3 harg3 x 0 (by decide) z) z (Nat.zero_le _) (by have := (z 0).isLt; change _ < 2048 at this; omega)
theorem q1 (f : arg5.view.ty.Contents (Elt F)) (z : S2048x128.Idx) (_ : 0 ≤ (z 0).val) :
    arg5.view.read (Elt F) (arg5.view.writes (Elt F) f (runB.sl.HS0_2 c arg3 harg3 x)) z = qcon x 1 (z 0).val (z 1).val :=
  top_rows arg5.view f _ _ (qcon x 1) (fun z => by rw [Nat.zero_add]; exact cols arg3 harg3 x 384 (by decide) z) z (Nat.zero_le _) (by have := (z 0).isLt; change _ < 2048 at this; omega)
theorem q2 (f : arg5.view.ty.Contents (Elt F)) (z : S2048x128.Idx) (_ : 0 ≤ (z 0).val) :
    arg5.view.read (Elt F) (arg5.view.writes (Elt F) f (runB.sl.HS0_3 c arg3 harg3 x)) z = qcon x 2 (z 0).val (z 1).val :=
  top_rows arg5.view f _ _ (qcon x 2) (fun z => by rw [Nat.zero_add]; exact cols arg3 harg3 x 768 (by decide) z) z (Nat.zero_le _) (by have := (z 0).isLt; change _ < 2048 at this; omega)

theorem k0 (f : arg6.view.ty.Contents (Elt F)) (z : S2176x128.Idx) (hz : 128 ≤ (z 0).val) :
    arg6.view.read (Elt F) (arg6.view.writes (Elt F) f (runB.sl.HS1_1 c arg3 harg3 x)) z = kcon false x y 1 0 (z 0).val (z 1).val :=
  filled_top arg6.view false x y 1 0 rfl f _ (by decide) _ (cols arg3 harg3 x 128 (by decide)) z hz
theorem k0' (h : Keep y 1 0 xs1) (z : S2176x128.Idx) (hz : 0 ≤ (z 0).val) :
    arg6.view.read (Elt F) (arg6.view.writes (Elt F) (harg6.unread xs1) (runB.sl.HS1_1 c arg3 harg3 x)) z = kcon false x y 1 0 (z 0).val (z 1).val :=
  filled_all arg6.view false x y 1 0 rfl _ _ (by decide) _ (cols arg3 harg3 x 128 (by decide)) (low_later _ _ _ _ _ rfl _ (by rw [harg6.read_unread]; exact h)) z hz

theorem k1 (f : arg7.view.ty.Contents (Elt F)) (z : S2560x128.Idx) (hz : 512 ≤ (z 0).val) :
    arg7.view.read (Elt F) (arg7.view.writes (Elt F) f (runB.sl.HS2_1 c arg3 harg3 x)) z = kcon false x y 1 1 (z 0).val (z 1).val :=
  filled_top arg7.view false x y 1 1 rfl f _ (by decide) _ (cols arg3 harg3 x 512 (by decide)) z hz
theorem k1' (h : Keep y 1 1 xs2) (z : S2560x128.Idx) (hz : 0 ≤ (z 0).val) :
    arg7.view.read (Elt F) (arg7.view.writes (Elt F) (harg7.unread xs2) (runB.sl.HS2_1 c arg3 harg3 x)) z = kcon false x y 1 1 (z 0).val (z 1).val :=
  filled_all arg7.view false x y 1 1 rfl _ _ (by decide) _ (cols arg3 harg3 x 512 (by decide)) (low_later _ _ _ _ _ rfl _ (by rw [harg7.read_unread]; exact h)) z hz

theorem k2 (f : arg8.view.ty.Contents (Elt F)) (z : S4096x128.Idx) (hz : 2048 ≤ (z 0).val) :
    arg8.view.read (Elt F) (arg8.view.writes (Elt F) f (runB.sl.HS3_1 c arg3 harg3 x)) z = kcon false x y 1 2 (z 0).val (z 1).val :=
  filled_top arg8.view false x y 1 2 rfl f _ (by decide) _ (cols arg3 harg3 x 896 (by decide)) z hz
theorem k2' (h : Keep y 1 2 xs3) (z : S4096x128.Idx) (hz : 0 ≤ (z 0).val) :
    arg8.view.read (Elt F) (arg8.view.writes (Elt F) (harg8.unread xs3) (runB.sl.HS3_1 c arg3 harg3 x)) z = kcon false x y 1 2 (z 0).val (z 1).val :=
  filled_all arg8.view false x y 1 2 rfl _ _ (by decide) _ (cols arg3 harg3 x 896 (by decide)) (low_later _ _ _ _ _ rfl _ (by rw [harg8.read_unread]; exact h)) z hz

theorem v0 (f : arg9.view.ty.Contents (Elt F)) (z : S2176x128.Idx) (hz : 128 ≤ (z 0).val) :
    arg9.view.read (Elt F) (arg9.view.writes (Elt F) f (runB.sl.HS4_1 c arg3 harg3 x)) z = kcon false x y 2 0 (z 0).val (z 1).val :=
  filled_top arg9.view false x y 2 0 rfl f _ (by decide) _ (cols arg3 harg3 x 256 (by decide)) z hz
theorem v0' (h : Keep y 2 0 xs4) (z : S2176x128.Idx) (hz : 0 ≤ (z 0).val) :
    arg9.view.read (Elt F) (arg9.view.writes (Elt F) (harg9.unread xs4) (runB.sl.HS4_1 c arg3 harg3 x)) z = kcon false x y 2 0 (z 0).val (z 1).val :=
  filled_all arg9.view false x y 2 0 rfl _ _ (by decide) _ (cols arg3 harg3 x 256 (by decide)) (low_later _ _ _ _ _ rfl _ (by rw [harg9.read_unread]; exact h)) z hz

theorem v1 (f : arg10.view.ty.Contents (Elt F)) (z : S2560x128.Idx) (hz : 512 ≤ (z 0).val) :
    arg10.view.read (Elt F) (arg10.view.writes (Elt F) f (runB.sl.HS5_1 c arg3 harg3 x)) z = kcon false x y 2 1 (z 0).val (z 1).val :=
  filled_top arg10.view false x y 2 1 rfl f _ (by decide) _ (cols arg3 harg3 x 640 (by decide)) z hz
theorem v1' (h : Keep y 2 1 xs5) (z : S2560x128.Idx) (hz : 0 ≤ (z 0).val) :
    arg10.view.read (Elt F) (arg10.view.writes (Elt F) (harg10.unread xs5) (runB.sl.HS5_1 c arg3 harg3 x)) z = kcon false x y 2 1 (z 0).val (z 1).val :=
  filled_all arg10.view false x y 2 1 rfl _ _ (by decide) _ (cols arg3 harg3 x 640 (by decide)) (low_later _ _ _ _ _ rfl _ (by rw [harg10.read_unread]; exact h)) z hz

theorem v2 (f : arg11.view.ty.Contents (Elt F)) (z : S4096x128.Idx) (hz : 2048 ≤ (z 0).val) :
    arg11.view.read (Elt F) (arg11.view.writes (Elt F) f (runB.sl.HS6_1 c arg3 harg3 x)) z = kcon false x y 2 2 (z 0).val (z 1).val :=
  filled_top arg11.view false x y 2 2 rfl f _ (by decide) _ (cols arg3 harg3 x 1024 (by decide)) z hz
theorem v2' (h : Keep y 2 2 xs6) (z : S4096x128.Idx) (hz : 0 ≤ (z 0).val) :
    arg11.view.read (Elt F) (arg11.view.writes (Elt F) (harg11.unread xs6) (runB.sl.HS6_1 c arg3 harg3 x)) z = kcon false x y 2 2 (z 0).val (z 1).val :=
  filled_all arg11.view false x y 2 2 rfl _ _ (by decide) _ (cols arg3 harg3 x 1024 (by decide)) (low_later _ _ _ _ _ rfl _ (by rw [harg11.read_unread]; exact h)) z hz

set_option maxHeartbeats 4000000 in
/-- Every tile of outputs the body writes is the tile of the function named. -/
theorem tilesO (h1 : Keep y 1 0 xs1) (h2 : Keep y 1 1 xs2) (h3 : Keep y 1 2 xs3) (h4 : Keep y 2 0 xs4) (h5 : Keep y 2 1 xs5) (h6 : Keep y 2 2 xs6) :
    ∀ p ∈ runB.sl.HS7_48 c i arg3 harg3 arg5 arg6 harg6 arg7 harg7 arg8 harg8 arg9 harg9 arg10 harg10 arg11 harg11 x xs1 xs2 xs3 xs4 xs5 xs6,
      ∀ z : p.1.shape.Idx, p.2 z = tileF payO i (qcon x) (kcon false x y 1) (kcon false x y 2) (p.1.emb z) := by
  unfold runB.sl.HS7_48 runB.sl.HS7_34
  iterate 16
    refine List.forall_mem_cons.2 ⟨?_, ?_⟩
    · exact tile_piece payO i _ _ _ 2 _ rfl rfl rfl rfl rfl (by decide) rfl rfl (load_q _ _ _ 0 _ _ (q2 c harg3 _) rfl rfl rfl rfl (Nat.zero_le _))
          (load_k _ _ _ 0 _ _ (k2' c harg3 harg8 h3) rfl rfl rfl rfl (Nat.zero_le _)) (load_k _ _ _ 0 _ _ (v2' c harg3 harg11 h6) rfl rfl rfl rfl (Nat.zero_le _))
  iterate 4
    iterate 3
      refine List.forall_mem_cons.2 ⟨?_, ?_⟩
      · exact tile_piece payO i _ _ _ 1 _ rfl rfl rfl rfl rfl (by decide) rfl rfl (load_q _ _ _ 0 _ _ (q1 c harg3 _) rfl rfl rfl rfl (Nat.zero_le _))
          (load_k _ _ _ _ _ _ (k1 c harg3 _) rfl rfl rfl rfl (by decide)) (load_k _ _ _ _ _ _ (v1 c harg3 _) rfl rfl rfl rfl (by decide))
    refine List.forall_mem_cons.2 ⟨?_, ?_⟩
    · exact tile_piece payO i _ _ _ 1 _ rfl rfl rfl rfl rfl (by decide) rfl rfl (load_q _ _ _ 0 _ _ (q1 c harg3 _) rfl rfl rfl rfl (Nat.zero_le _))
          (load_k _ _ _ 0 _ _ (k1' c harg3 harg7 h2) rfl rfl rfl rfl (Nat.zero_le _)) (load_k _ _ _ 0 _ _ (v1' c harg3 harg10 h5) rfl rfl rfl rfl (Nat.zero_le _))
  iterate 15
    refine List.forall_mem_cons.2 ⟨?_, ?_⟩
    · exact tile_piece payO i _ _ _ 0 _ rfl rfl rfl rfl rfl (by decide) rfl rfl (load_q _ _ _ 0 _ _ (q0 c harg3 _) rfl rfl rfl rfl (Nat.zero_le _))
          (load_k _ _ _ _ _ _ (k0 c harg3 _) rfl rfl rfl rfl (by decide)) (load_k _ _ _ _ _ _ (v0 c harg3 _) rfl rfl rfl rfl (by decide))
  refine List.forall_mem_cons.2 ⟨?_, ?_⟩
  · exact tile_piece payO i _ _ _ 0 _ rfl rfl rfl rfl rfl (by decide) rfl rfl (load_q _ _ _ 0 _ _ (q0 c harg3 _) rfl rfl rfl rfl (Nat.zero_le _))
          (load_k _ _ _ 0 _ _ (k0' c harg3 harg6 h1) rfl rfl rfl rfl (Nat.zero_le _)) (load_k _ _ _ 0 _ _ (v0' c harg3 harg9 h4) rfl rfl rfl rfl (Nat.zero_le _))
  exact fun p hp => absurd hp List.not_mem_nil

theorem keysO : (runB.sl.HS7_48 c i arg3 harg3 arg5 arg6 harg6 arg7 harg7 arg8 harg8 arg9 harg9 arg10 harg10 arg11 harg11 x xs1 xs2 xs3 xs4 xs5 xs6).map key = keys.reverse := rfl

set_option maxHeartbeats 4000000 in
/-- Every tile of log denominators likewise. -/
theorem tilesL (h1 : Keep y 1 0 xs1) (h2 : Keep y 1 1 xs2) (h3 : Keep y 1 2 xs3) (h4 : Keep y 2 0 xs4) (h5 : Keep y 2 1 xs5) (h6 : Keep y 2 2 xs6) :
    ∀ p ∈ runB.sl.HS8_48 c i arg3 harg3 arg5 arg6 harg6 arg7 harg7 arg8 harg8 arg9 harg9 arg10 harg10 arg11 harg11 x xs1 xs2 xs3 xs4 xs5 xs6,
      ∀ z : p.1.shape.Idx, p.2 z = tileF payL i (qcon x) (kcon false x y 1) (kcon false x y 2) (p.1.emb z) := by
  unfold runB.sl.HS8_48 runB.sl.HS8_44
  iterate 16
    refine List.forall_mem_cons.2 ⟨?_, ?_⟩
    · exact tile_piece payL i _ _ _ 2 _ rfl rfl rfl rfl rfl (by decide) rfl rfl (load_q _ _ _ 0 _ _ (q2 c harg3 _) rfl rfl rfl rfl (Nat.zero_le _))
          (load_k _ _ _ 0 _ _ (k2' c harg3 harg8 h3) rfl rfl rfl rfl (Nat.zero_le _)) (load_k _ _ _ 0 _ _ (v2' c harg3 harg11 h6) rfl rfl rfl rfl (Nat.zero_le _))
  iterate 4
    iterate 3
      refine List.forall_mem_cons.2 ⟨?_, ?_⟩
      · exact tile_piece payL i _ _ _ 1 _ rfl rfl rfl rfl rfl (by decide) rfl rfl (load_q _ _ _ 0 _ _ (q1 c harg3 _) rfl rfl rfl rfl (Nat.zero_le _))
          (load_k _ _ _ _ _ _ (k1 c harg3 _) rfl rfl rfl rfl (by decide)) (load_k _ _ _ _ _ _ (v1 c harg3 _) rfl rfl rfl rfl (by decide))
    refine List.forall_mem_cons.2 ⟨?_, ?_⟩
    · exact tile_piece payL i _ _ _ 1 _ rfl rfl rfl rfl rfl (by decide) rfl rfl (load_q _ _ _ 0 _ _ (q1 c harg3 _) rfl rfl rfl rfl (Nat.zero_le _))
          (load_k _ _ _ 0 _ _ (k1' c harg3 harg7 h2) rfl rfl rfl rfl (Nat.zero_le _)) (load_k _ _ _ 0 _ _ (v1' c harg3 harg10 h5) rfl rfl rfl rfl (Nat.zero_le _))
  iterate 15
    refine List.forall_mem_cons.2 ⟨?_, ?_⟩
    · exact tile_piece payL i _ _ _ 0 _ rfl rfl rfl rfl rfl (by decide) rfl rfl (load_q _ _ _ 0 _ _ (q0 c harg3 _) rfl rfl rfl rfl (Nat.zero_le _))
          (load_k _ _ _ _ _ _ (k0 c harg3 _) rfl rfl rfl rfl (by decide)) (load_k _ _ _ _ _ _ (v0 c harg3 _) rfl rfl rfl rfl (by decide))
  refine List.forall_mem_cons.2 ⟨?_, ?_⟩
  · exact tile_piece payL i _ _ _ 0 _ rfl rfl rfl rfl rfl (by decide) rfl rfl (load_q _ _ _ 0 _ _ (q0 c harg3 _) rfl rfl rfl rfl (Nat.zero_le _))
          (load_k _ _ _ 0 _ _ (k0' c harg3 harg6 h1) rfl rfl rfl rfl (Nat.zero_le _)) (load_k _ _ _ 0 _ _ (v0' c harg3 harg9 h4) rfl rfl rfl rfl (Nat.zero_le _))
  exact fun p hp => absurd hp List.not_mem_nil

theorem keysL : (runB.sl.HS8_48 c i arg3 harg3 arg5 arg6 harg6 arg7 harg7 arg8 harg8 arg9 harg9 arg10 harg10 arg11 harg11 x xs1 xs2 xs3 xs4 xs5 xs6).map key = keys.reverse := rfl

/-- The planes the last step loads. -/
theorem plO (h1 : Keep y 1 0 xs1) (h2 : Keep y 1 1 xs2) (h3 : Keep y 1 2 xs3) (h4 : Keep y 2 0 xs4) (h5 : Keep y 2 1 xs5) (h6 : Keep y 2 2 xs6)
    (f : arg12.view.ty.Contents (Elt F)) (g : Fin 3) {o : Fin 3 → ℕ} (inb : ∀ a, o a + S1x2048x128.size a ≤ S3x2048x128.size a) (e0 : o 0 = g.val) (e1 : o 1 = 0) (e2 : o 2 = 0) :
    arg12.view.readAt (Elt F) (Rect.unit (s := S3x2048x128) o S1x2048x128.size inb).toLoadRect
        (arg12.view.writes (Elt F) f (runB.sl.HS7_48 c i arg3 harg3 arg5 arg6 harg6 arg7 harg7 arg8 harg8 arg9 harg9 arg10 harg10 arg11 harg11 x xs1 xs2 xs3 xs4 xs5 xs6))
      = plane (tileF payO i (qcon x) (kcon false x y 1) (kcon false x y 2)) g :=
  read_plane arg12.view f _ _ (tilesO c i harg3 harg6 harg7 harg8 harg9 harg10 harg11 h1 h2 h3 h4 h5 h6) (keysO c i harg3 harg6 harg7 harg8 harg9 harg10 harg11) g inb e0 e1 e2
theorem plL (h1 : Keep y 1 0 xs1) (h2 : Keep y 1 1 xs2) (h3 : Keep y 1 2 xs3) (h4 : Keep y 2 0 xs4) (h5 : Keep y 2 1 xs5) (h6 : Keep y 2 2 xs6)
    (f : arg13.view.ty.Contents (Elt F)) (g : Fin 3) {o : Fin 3 → ℕ} (inb : ∀ a, o a + S1x2048x128.size a ≤ S3x2048x128.size a) (e0 : o 0 = g.val) (e1 : o 1 = 0) (e2 : o 2 = 0) :
    arg13.view.readAt (Elt F) (Rect.unit (s := S3x2048x128) o S1x2048x128.size inb).toLoadRect
        (arg13.view.writes (Elt F) f (runB.sl.HS8_48 c i arg3 harg3 arg5 arg6 harg6 arg7 harg7 arg8 harg8 arg9 harg9 arg10 harg10 arg11 harg11 x xs1 xs2 xs3 xs4 xs5 xs6))
      = plane (tileF payL i (qcon x) (kcon false x y 1) (kcon false x y 2)) g :=
  read_plane arg13.view f _ _ (tilesL c i harg3 harg6 harg7 harg8 harg9 harg10 harg11 h1 h2 h3 h4 h5 h6) (keysL c i harg3 harg6 harg7 harg8 harg9 harg10 harg11) g inb e0 e1 e2

/-- THE OUTPUT BLOCK: what the body's one write to it carries. -/
theorem out (hc : ¬ cond0_0 i) (xs0 : Vec F S2048x128 .f32) (h1 : Keep y 1 0 xs1) (h2 : Keep y 1 1 xs2) (h3 : Keep y 1 2 xs3) (h4 : Keep y 2 0 xs4) (h5 : Keep y 2 1 xs5) (h6 : Keep y 2 2 xs6)
    (f : arg4.view.ty.Contents (Elt F)) :
    arg4.view.read (Elt F) (arg4.view.writes (Elt F) f
        (runB c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).1)
      = outF false i x y := by
  refine (View.read_writes_full (s := S2048x128) arg4.view f inb_S2048x128_S2048x128_0_0 _ []).trans ?_
  have o0 := plO c i harg3 harg6 harg7 harg8 harg9 harg10 harg11 h1 h2 h3 h4 h5 h6 (arg12 := arg12) (arg5 := arg5) (x := x) arg12.view.junk 0 inb_S3x2048x128_S1x2048x128_0_0_0 rfl rfl rfl
  have o1 := plO c i harg3 harg6 harg7 harg8 harg9 harg10 harg11 h1 h2 h3 h4 h5 h6 (arg12 := arg12) (arg5 := arg5) (x := x) (harg12.unread xs7) 1 inb_S3x2048x128_S1x2048x128_1_0_0 rfl rfl rfl
  have o2 := plO c i harg3 harg6 harg7 harg8 harg9 harg10 harg11 h1 h2 h3 h4 h5 h6 (arg12 := arg12) (arg5 := arg5) (x := x) (harg12.unread xs7) 2 inb_S3x2048x128_S1x2048x128_2_0_0 rfl rfl rfl
  have l0 := plL c i harg3 harg6 harg7 harg8 harg9 harg10 harg11 h1 h2 h3 h4 h5 h6 (arg13 := arg13) (arg5 := arg5) (x := x) arg13.view.junk 0 inb_S3x2048x128_S1x2048x128_0_0_0 rfl rfl rfl
  have l1 := plL c i harg3 harg6 harg7 harg8 harg9 harg10 harg11 h1 h2 h3 h4 h5 h6 (arg13 := arg13) (arg5 := arg5) (x := x) (harg13.unread xs8) 1 inb_S3x2048x128_S1x2048x128_1_0_0 rfl rfl rfl
  have l2 := plL c i harg3 harg6 harg7 harg8 harg9 harg10 harg11 h1 h2 h3 h4 h5 h6 (arg13 := arg13) (arg5 := arg5) (x := x) (harg13.unread xs8) 2 inb_S3x2048x128_S1x2048x128_2_0_0 rfl rfl rfl
  rw [outF_eq, ← o0, ← o1, ← o2, ← l0, ← l1, ← l2]
  rfl

theorem keep1 (hc : ¬ cond0_0 i) (xs0 : Vec F S2048x128 .f32) (f : arg6.view.ty.Contents (Elt F)) :
    Keep x 1 0 (arg6.view.read (Elt F) (arg6.view.writes (Elt F) f
      (runB c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).2.2.1)) :=
  keep_of_move arg6.view false x x 1 0 rfl (by decide) f _ _ (k0 c harg3 _)
theorem keep2 (hc : ¬ cond0_0 i) (xs0 : Vec F S2048x128 .f32) (f : arg7.view.ty.Contents (Elt F)) :
    Keep x 1 1 (arg7.view.read (Elt F) (arg7.view.writes (Elt F) f
      (runB c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).2.2.2.1)) :=
  keep_of_move arg7.view false x x 1 1 rfl (by decide) f _ _ (k1 c harg3 _)
theorem keep3 (hc : ¬ cond0_0 i) (xs0 : Vec F S2048x128 .f32) (f : arg8.view.ty.Contents (Elt F)) :
    Keep x 1 2 (arg8.view.read (Elt F) (arg8.view.writes (Elt F) f
      (runB c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).2.2.2.2.1)) :=
  keep_of_move arg8.view false x x 1 2 rfl (by decide) f _ _ (k2 c harg3 _)
theorem keep4 (hc : ¬ cond0_0 i) (xs0 : Vec F S2048x128 .f32) (f : arg9.view.ty.Contents (Elt F)) :
    Keep x 2 0 (arg9.view.read (Elt F) (arg9.view.writes (Elt F) f
      (runB c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).2.2.2.2.2.1)) :=
  keep_of_move arg9.view false x x 2 0 rfl (by decide) f _ _ (v0 c harg3 _)
theorem keep5 (hc : ¬ cond0_0 i) (xs0 : Vec F S2048x128 .f32) (f : arg10.view.ty.Contents (Elt F)) :
    Keep x 2 1 (arg10.view.read (Elt F) (arg10.view.writes (Elt F) f
      (runB c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).2.2.2.2.2.2.1)) :=
  keep_of_move arg10.view false x x 2 1 rfl (by decide) f _ _ (v1 c harg3 _)
theorem keep6 (hc : ¬ cond0_0 i) (xs0 : Vec F S2048x128 .f32) (f : arg11.view.ty.Contents (Elt F)) :
    Keep x 2 2 (arg11.view.read (Elt F) (arg11.view.writes (Elt F) f
      (runB c i arg3 harg3 arg4 harg4 arg5 harg5 arg6 harg6 arg7 harg7 arg8 harg8 arg9 harg9 arg10 harg10 arg11 harg11 arg12 harg12 arg13 harg13 hc x xs0 xs1 xs2 xs3 xs4 xs5 xs6 xs7 xs8).2.2.2.2.2.2.2.1)) :=
  keep_of_move arg11.view false x x 2 2 rfl (by decide) f _ _ (v2 c harg3 _)

end Later

end Cert.KernelIdeal.Body
-- ==== Proof.SwaLaunch.lean ====
/- The attention kernel's launch: the body's two runs put together over the grid.  Between two points each of the six carried
   scratches holds the last tokens of the block just done (except where a new sequence begins), and the output block left at a
   point is `outF` of the point's block and the one before it.  At any float instance. -/
module

public import proofs.«01_k».proof.Proof.SwaValA
public import proofs.«01_k».proof.Proof.SwaValB
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input block of grid point `n`. -/
def blkAt (c : Dev nD) (n : ℕ) : Vec F S2048x1152 .bf16 :=
  iblk m c 0 ⟨n % 64, lt_of_lt_of_eq (Nat.mod_lt n (by decide)) (show 64 = cfg0.N from N_0.symm)⟩

theorem blkAt_val (c : Dev nD) (t : Fin cfg0.N) : blkAt m c t.val = iblk m c 0 t := by
  have hN : t.val < 64 := lt_of_lt_of_eq t.isLt (show cfg0.N = 64 from N_0)
  have e : (⟨t.val % 64, lt_of_lt_of_eq (Nat.mod_lt t.val (by decide)) (show 64 = cfg0.N from N_0.symm)⟩ : Fin cfg0.N) = t :=
    Fin.ext (Nat.mod_eq_of_lt hN)
  unfold blkAt; rw [e]

/-- Before point `n` a carried scratch holds, unless a sequence begins there, the last tokens of the block before. -/
def held {N : ℕ} (c : Dev nD) (n p g : ℕ) (M : Memref sig .tc .vmem ⟨2, ![N, 128]⟩ .f32) : sProp 𝕄 :=
  iprop(∃ d, ⌜n % 8 ≠ 0 → Keep (blkAt m c (n - 1)) p g d⌝ ∗ owns (c : Thread nD τ) M fullShare d)

/-- What is known before point `n`: the carried scratches as `held` says, the others at anything. -/
def PhiS (c : Dev nD) (n : ℕ) : sProp 𝕄 :=
  iprop(iprop((∃ d, owns (c : Thread nD τ) scM0_0 fullShare d) ∗ held m c n 1 0 scM0_1 ∗ held m c n 1 1 scM0_2 ∗ held m c n 1 2 scM0_3
    ∗ held m c n 2 0 scM0_4 ∗ held m c n 2 1 scM0_5 ∗ held m c n 2 2 scM0_6
    ∗ (∃ d, owns (c : Thread nD τ) scM0_7 fullShare d) ∗ (∃ d, owns (c : Thread nD τ) scM0_8 fullShare d)) ∗ (∃ r, prngReg c r))

/-- The output block left at point `t`. -/
def outAt (c : Dev nD) (t : Fin cfg0.N) : Vec F S2048x128 .bf16 :=
  outF (decide (t.val % 8 = 0)) (grid0.coords t) (iblk m c 0 t) (blkAt m c (t.val - 1))

/-- The proof data: the arrays as the region finds them, the input block left in place, the output block `outAt`. -/
def dats (p : Fin 1) (c : Dev nD) : Dat τ (Elt F) Unit ℕ (UR sig nD τ) ℕ (cfgs p) c :=
  match p with
  | 0 =>
    { A := fun w => V m c (Pipeline.arrRef spec0 w)
      q := fun _ => fullShare
      after := fun w t => match w with
        | ⟨0, _⟩ => iblk m c 0 t
        | ⟨1, _⟩ => outAt m c t
      Φ := fun t => PhiS m c t.val
      owed := fun _ => 0 }

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem Phi_castSucc (c : Dev nD) (t : Fin cfg0.N) : (dats m 0 c).Φ t.castSucc = PhiS m c t.val := by
  dsimp only [dats]; exact Pipeline.Dat.Φ_castSucc (fun n _ => PhiS m c n) t

theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 6400000 in
/-- The body at the first block of a sequence. -/
theorem sound_first (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl, after0_0, after0_1, Phi_castSucc,
    Phi_eq m c t.succ, Fin.val_succ]
  have hb : blkAt m c (t.val + 1 - 1) = iblk m c 0 t := blkAt_val m c t
  have ho : outAt m c t = outF true (grid0.coords t) (iblk m c 0 t) (blkAt m c (t.val - 1)) := by
    unfold outAt; rw [decide_eq_true h0]
  rw [ho]
  unfold PhiS held
  rw [hb]
  have hc := (hcond0_0 t).mpr h0
  iintro ⟨⟨⟨⟨%xs0, HS0⟩, ⟨%xs1, %h1, HS1⟩, ⟨%xs2, %h2, HS2⟩, ⟨%xs3, %h3, HS3⟩, ⟨%xs4, %h4, HS4⟩, ⟨%xs5, %h5, HS5⟩, ⟨%xs6, %h6, HS6⟩, ⟨%xs7, HS7⟩, ⟨%xs8, HS8⟩⟩, Hg⟩, Ho, ⟨%d0, H0⟩, ⟨%d1, H1⟩⟩
  iapply ((runA c (grid0.coords t) _ _ _ _ _ _ _ _ _ _ _ _ _ _ _ _ _ _ _ _ _ _ hc (iblk m c 0 t) xs0 xs1 xs2 xs3 xs4 xs5 xs6 xs7 xs8).2.2.2.2.2.2.2.2.2.2 Set.univ _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, ⟨%e1, H1⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩⟩
  isplitl [HS0 HS1 HS2 HS3 HS4 HS5 HS6 HS7 HS8 Hg]
  · isplitl [HS0 HS1 HS2 HS3 HS4 HS5 HS6 HS7 HS8]
    · isplitl [HS0]
      · unfold owns; iexists _; iexists _; isplitr
        swap; · iexact HS0
        ipureintro; exact rfl
      isplitl [HS1]
      · iexists _; isplitr
        swap
        · unfold owns; iexists _; isplitr
          swap; · iexact HS1
          ipureintro; exact rfl
        ipureintro; exact fun _ => First.keep1 c (grid0.coords t) _ _ _ _ _ _ _ _ _ _ _ xs7 xs8 hc xs0 es1
      isplitl [HS2]
      · iexists _; isplitr
        swap
        · unfold owns; iexists _; isplitr
          swap; · iexact HS2
          ipureintro; exact rfl
        ipureintro; exact fun _ => First.keep2 c (grid0.coords t) _ _ _ _ _ _ _ _ _ _ _ xs7 xs8 hc xs0 es2
      isplitl [HS3]
      · iexists _; isplitr
        swap
        · unfold owns; iexists _; isplitr
          swap; · iexact HS3
          ipureintro; exact rfl
        ipureintro; exact fun _ => First.keep3 c (grid0.coords t) _ _ _ _ _ _ _ _ _ _ _ xs7 xs8 hc xs0 es3
      isplitl [HS4]
      · iexists _; isplitr
        swap
        · unfold owns; iexists _; isplitr
          swap; · iexact HS4
          ipureintro; exact rfl
        ipureintro; exact fun _ => First.keep4 c (grid0.coords t) _ _ _ _ _ _ _ _ _ _ _ xs7 xs8 hc xs0 es4
      isplitl [HS5]
      · iexists _; isplitr
        swap
        · unfold owns; iexists _; isplitr
          swap; · iexact HS5
          ipureintro; exact rfl
        ipureintro; exact fun _ => First.keep5 c (grid0.coords t) _ _ _ _ _ _ _ _ _ _ _ xs7 xs8 hc xs0 es5
      isplitl [HS6]
      · iexists _; isplitr
        swap
        · unfold owns; iexists _; isplitr
          swap; · iexact HS6
          ipureintro; exact rfl
        ipureintro; exact fun _ => First.keep6 c (grid0.coords t) _ _ _ _ _ _ _ _ _ _ _ xs7 xs8 hc xs0 es6
      isplitl [HS7]
      · unfold owns; iexists _; iexists _; isplitr
        swap; · iexact HS7
        ipureintro; exact rfl
      unfold owns; iexists _; iexists _; isplitr
      swap; · iexact HS8
      ipureintro; exact rfl
    iexact Hg
  isplitl [Ho]; · iexact Ho
  isplitl [H0]; · iexact H0
  unfold owns; iexists _; isplitr
  swap; · iexact H1
  ipureintro; exact First.out c (grid0.coords t) _ _ _ _ _ _ _ _ _ _ _ (blkAt m c (t.val - 1)) xs7 xs8 hc xs0 e1

set_option maxHeartbeats 6400000 in
/-- The body at a later block. -/
theorem sound_later (c : Dev nD) (t : Fin cfg0.N) (h0 : ¬ t.val % 8 = 0) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl, after0_0, after0_1, Phi_castSucc,
    Phi_eq m c t.succ, Fin.val_succ]
  have hb : blkAt m c (t.val + 1 - 1) = iblk m c 0 t := blkAt_val m c t
  have ho : outAt m c t = outF false (grid0.coords t) (iblk m c 0 t) (blkAt m c (t.val - 1)) := by
    unfold outAt; rw [decide_eq_false h0]
  rw [ho]
  unfold PhiS held
  rw [hb]
  have hc : ¬ cond0_0 (grid0.coords t) := fun h => h0 ((hcond0_0 t).mp h)
  iintro ⟨⟨⟨⟨%xs0, HS0⟩, ⟨%xs1, %h1, HS1⟩, ⟨%xs2, %h2, HS2⟩, ⟨%xs3, %h3, HS3⟩, ⟨%xs4, %h4, HS4⟩, ⟨%xs5, %h5, HS5⟩, ⟨%xs6, %h6, HS6⟩, ⟨%xs7, HS7⟩, ⟨%xs8, HS8⟩⟩, Hg⟩, Ho, ⟨%d0, H0⟩, ⟨%d1, H1⟩⟩
  iapply ((runB c (grid0.coords t) _ _ _ _ _ _ _ _ _ _ _ _ _ _ _ _ _ _ _ _ _ _ hc (iblk m c 0 t) xs0 xs1 xs2 xs3 xs4 xs5 xs6 xs7 xs8).2.2.2.2.2.2.2.2.2.2 Set.univ _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, ⟨%e1, H1⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩⟩
  isplitl [HS0 HS1 HS2 HS3 HS4 HS5 HS6 HS7 HS8 Hg]
  · isplitl [HS0 HS1 HS2 HS3 HS4 HS5 HS6 HS7 HS8]
    · isplitl [HS0]
      · unfold owns; iexists _; iexists _; isplitr
        swap; · iexact HS0
        ipureintro; exact rfl
      isplitl [HS1]
      · iexists _; isplitr
        swap
        · unfold owns; iexists _; isplitr
          swap; · iexact HS1
          ipureintro; exact rfl
        ipureintro; exact fun _ => Later.keep1 c (grid0.coords t) _ _ _ _ _ _ _ _ _ _ _ xs7 xs8 hc xs0 es1
      isplitl [HS2]
      · iexists _; isplitr
        swap
        · unfold owns; iexists _; isplitr
          swap; · iexact HS2
          ipureintro; exact rfl
        ipureintro; exact fun _ => Later.keep2 c (grid0.coords t) _ _ _ _ _ _ _ _ _ _ _ xs7 xs8 hc xs0 es2
      isplitl [HS3]
      · iexists _; isplitr
        swap
        · unfold owns; iexists _; isplitr
          swap; · iexact HS3
          ipureintro; exact rfl
        ipureintro; exact fun _ => Later.keep3 c (grid0.coords t) _ _ _ _ _ _ _ _ _ _ _ xs7 xs8 hc xs0 es3
      isplitl [HS4]
      · iexists _; isplitr
        swap
        · unfold owns; iexists _; isplitr
          swap; · iexact HS4
          ipureintro; exact rfl
        ipureintro; exact fun _ => Later.keep4 c (grid0.coords t) _ _ _ _ _ _ _ _ _ _ _ xs7 xs8 hc xs0 es4
      isplitl [HS5]
      · iexists _; isplitr
        swap
        · unfold owns; iexists _; isplitr
          swap; · iexact HS5
          ipureintro; exact rfl
        ipureintro; exact fun _ => Later.keep5 c (grid0.coords t) _ _ _ _ _ _ _ _ _ _ _ xs7 xs8 hc xs0 es5
      isplitl [HS6]
      · iexists _; isplitr
        swap
        · unfold owns; iexists _; isplitr
          swap; · iexact HS6
          ipureintro; exact rfl
        ipureintro; exact fun _ => Later.keep6 c (grid0.coords t) _ _ _ _ _ _ _ _ _ _ _ xs7 xs8 hc xs0 es6
      isplitl [HS7]
      · unfold owns; iexists _; iexists _; isplitr
        swap; · iexact HS7
        ipureintro; exact rfl
      unfold owns; iexists _; iexists _; isplitr
      swap; · iexact HS8
      ipureintro; exact rfl
    iexact Hg
  isplitl [Ho]; · iexact Ho
  isplitl [H0]; · iexact H0
  unfold owns; iexists _; isplitr
  swap; · iexact H1
  ipureintro; exact Later.out c (grid0.coords t) _ _ _ _ _ _ _ _ _ _ _ xs7 xs8 hc xs0 (h1 h0) (h2 h0) (h3 h0) (h4 h0) (h5 h0) (h6 h0) e1

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · exact sound_later m c t h0

theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the region what is known before the first point: nothing, a sequence beginning there. -/
theorem hin (c : Dev nD) : Pipeline.ΦA spec0 c ⊢ (dats m 0 c).Φ 0 := by
  rw [Phi_eq m c 0, PhiA0_eq]
  unfold PhiS held
  iintro ⟨⟨HS0, ⟨%d1, HS1⟩, ⟨%d2, HS2⟩, ⟨%d3, HS3⟩, ⟨%d4, HS4⟩, ⟨%d5, HS5⟩, ⟨%d6, HS6⟩, HS7, HS8⟩, Hg⟩
  isplitl [HS0 HS1 HS2 HS3 HS4 HS5 HS6 HS7 HS8]
  · isplitl [HS0]; · iexact HS0
    isplitl [HS1]
    · iexists _; isplitr; swap; · iexact HS1
      ipureintro; exact fun h => absurd rfl h
    isplitl [HS2]
    · iexists _; isplitr; swap; · iexact HS2
      ipureintro; exact fun h => absurd rfl h
    isplitl [HS3]
    · iexists _; isplitr; swap; · iexact HS3
      ipureintro; exact fun h => absurd rfl h
    isplitl [HS4]
    · iexists _; isplitr; swap; · iexact HS4
      ipureintro; exact fun h => absurd rfl h
    isplitl [HS5]
    · iexists _; isplitr; swap; · iexact HS5
      ipureintro; exact fun h => absurd rfl h
    isplitl [HS6]
    · iexists _; isplitr; swap; · iexact HS6
      ipureintro; exact fun h => absurd rfl h
    isplitl [HS7]; · iexact HS7
    iexact HS8
  iexact Hg

/-- After the last point what the scratch holds is forgotten. -/
theorem hout (c : Dev nD) : (dats m 0 c).Φ (Fin.last cfg0.N) ⊢ Pipeline.ΦA spec0 c := by
  rw [Phi_eq m c, PhiA0_eq]
  unfold PhiS held
  iintro ⟨⟨HS0, ⟨%d1, -, HS1⟩, ⟨%d2, -, HS2⟩, ⟨%d3, -, HS3⟩, ⟨%d4, -, HS4⟩, ⟨%d5, -, HS5⟩, ⟨%d6, -, HS6⟩, HS7, HS8⟩, Hg⟩
  isplitl [HS0 HS1 HS2 HS3 HS4 HS5 HS6 HS7 HS8]
  · isplitl [HS0]; · iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexact HS7
    iexact HS8
  iexact Hg

set_option backward.isDefEq.respectTransparency.types false in
/-- The launch runs to its end; the arrays end at the contents the proof data names, and every counter is zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, at any float instance: the argument arrays end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.SwaFrame.lean ====
/- The attention kernel's frame at the machine's own float values, read off the run proved over any float values: the
   two programs have the same text. -/
module

public import proofs.«01_k».proof.Defs
public import proofs.«01_k».proof.Proof.SwaLaunch
public import proofs.«01_k».proof.Proof.Gen.Kernel

@[expose] public section

set_option maxRecDepth 200000

namespace Cert.Proof

open Idealize.ShloMosaic Idealize.SL.Sem

/-- The two programs' kernel bodies are the same table. -/
theorem table_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext ℓ a
  match ℓ, a with
  | ⟨0, _⟩, (t, s) => rfl

/-- The two programs' tables, the pipeline's labels included, are the same. -/
theorem defs_eq : @Cert.Kernel.defs Bits _ Cert.Kernel.Gen.facts = @Cert.KernelIdeal.defs Bits _ Cert.KernelIdeal.Gen.facts :=
  congrArg (Pipeline.defs (Cert.KernelIdeal.pcfgs (F := Bits))) table_eq

/-- The attention kernel runs, leaves its arguments as they were and every counter at zero. -/
theorem frame_kernel : Cert.quiescent_Kernel (hKernel := Cert.Kernel.Gen.facts) := fun m ρ _ => by
  have h := Cert.KernelIdeal.Body.frame (F := Bits) m ρ
  rw [← defs_eq] at h
  exact h

end Cert.Proof

end
-- ==== Proof.InRunA.lean ====
/- The layer's input projection, at a row block's first grid point: the body norms the block's rows, in four tiles, into the
   result block of normed rows, multiplies these by the narrow weight, and then by the point's columns of the wide one.  At
   any float instance. -/
module

public import proofs.«01_k».proof.Proof.Gen.Kernel5Ideal.Frame
public import proofs.«01_k».proof.Proof.Gen.Kernel5Ideal.Skeleton
public import proofs.«01_k».proof.Proof.Gen.Kernel5Ideal.Loops

@[expose] public section

set_option maxRecDepth 16384

noncomputable section

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch is taken at a row block's first point. -/
theorem first_iff : ∀ t : Fin cfg0.N, k0_cond1 (grid0.coords t) = 1#1 ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

set_option backward.proofsInPublic true in
set_option maxHeartbeats 1000000 in
/-- The body's run at a first point: what it stores into the three results' blocks. -/
def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (hc : k0_cond1 i = 1#1)
    (x0 : Vec F S1024x2048 .f32) (x1 : Vec F S1x2048 .f32) (x2 : Vec F S2048x2048 .bf16) (x3 : Vec F S2048x128 .bf16) :
    Σ' (L4 : List (View.Piece (Elt F) S1024x2048 .bf16)), Σ' (L5 : List (View.Piece (Elt F) S1024x128 .f32)), { L6 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0_in_proj_main i arg2 harg2 arg3 harg3 arg4 harg4 arg5 harg5 arg6 harg6 arg7 harg7 arg8 harg8) K } := by
  refine ⟨?_, ?_, ?_, fun E K => ?run⟩
  case run =>
    simp only [cc0_in_proj_main_eq_skeleton]; unfold cc0_in_proj_main_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    have hrd : ∀ (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (h1 : k0_cond1 i = 1#1) (v10 : Vec F S1x2048 .f32) (X : BufTy.Contents (Elt F) arg2.view.ty) (f : BufTy.Contents (Elt F) arg8.view.ty) (B : LoadRect S1024x2048),
        arg8.view.readAt (Elt F) B (arg8.view.writes (Elt F) f (pb_k0_t1 (F := F) 𝒱 c bd i arg2 harg2 arg3 harg3 arg4 harg4 arg5 harg5 arg6 harg6 arg7 harg7 arg8 harg8 h1 v10 X (Scf.trips k0_t1_loop.lb k0_t1_loop.ub k0_t1_loop.st)))
          = arg8.view.readCov (pb_k0_t1 (F := F) 𝒱 c bd i arg2 harg2 arg3 harg3 arg4 harg4 arg5 harg5 arg6 harg6 arg7 harg7 arg8 harg8 h1 v10 X (Scf.trips k0_t1_loop.lb k0_t1_loop.ub k0_t1_loop.st)) B :=
      fun 𝒱 c bd i arg2 harg2 arg3 harg3 arg4 harg4 arg5 harg5 arg6 harg6 arg7 harg7 arg8 harg8 h1 v10 X f B =>
        View.readAt_writes_of_cover _ f _ B (fun J => View.cover_of_tiledL (pb_k0_t1 (F := F) 𝒱 c bd i arg2 harg2 arg3 harg3 arg4 harg4 arg5 harg5 arg6 harg6 arg7 harg7 arg8 harg8 h1 v10 X (Scf.trips k0_t1_loop.lb k0_t1_loop.ub k0_t1_loop.st)) S256x2048.size (by sl_kernel_rfl) (B.idx J))
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

/-- The stores of a first point fill each result's block. -/
theorem coverA4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (hc : k0_cond1 i = 1#1)
    (x0 : Vec F S1024x2048 .f32) (x1 : Vec F S1x2048 .f32) (x2 : Vec F S2048x2048 .bf16) (x3 : Vec F S2048x128 .bf16) (y : S1024x2048.Idx) :
    ∃ pc ∈ (runA c i arg2 harg2 arg3 harg3 arg4 harg4 arg5 harg5 arg6 harg6 arg7 harg7 arg8 harg8 hc x0 x1 x2 x3).1, y ∈ pc.1.set :=
  View.cover_of_tiledL (runA c i arg2 harg2 arg3 harg3 arg4 harg4 arg5 harg5 arg6 harg6 arg7 harg7 arg8 harg8 hc x0 x1 x2 x3).1 S1024x2048.size (by sl_kernel_rfl) y

theorem coverA5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (hc : k0_cond1 i = 1#1)
    (x0 : Vec F S1024x2048 .f32) (x1 : Vec F S1x2048 .f32) (x2 : Vec F S2048x2048 .bf16) (x3 : Vec F S2048x128 .bf16) (y : S1024x128.Idx) :
    ∃ pc ∈ (runA c i arg2 harg2 arg3 harg3 arg4 harg4 arg5 harg5 arg6 harg6 arg7 harg7 arg8 harg8 hc x0 x1 x2 x3).2.1, y ∈ pc.1.set :=
  View.cover_of_tiledL (runA c i arg2 harg2 arg3 harg3 arg4 harg4 arg5 harg5 arg6 harg6 arg7 harg7 arg8 harg8 hc x0 x1 x2 x3).2.1 S1024x128.size (by sl_kernel_rfl) y

theorem coverA6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (hc : k0_cond1 i = 1#1)
    (x0 : Vec F S1024x2048 .f32) (x1 : Vec F S1x2048 .f32) (x2 : Vec F S2048x2048 .bf16) (x3 : Vec F S2048x128 .bf16) (y : S1024x2048.Idx) :
    ∃ pc ∈ (runA c i arg2 harg2 arg3 harg3 arg4 harg4 arg5 harg5 arg6 harg6 arg7 harg7 arg8 harg8 hc x0 x1 x2 x3).2.2.1, y ∈ pc.1.set :=
  View.cover_of_tiledL (runA c i arg2 harg2 arg3 harg3 arg4 harg4 arg5 harg5 arg6 harg6 arg7 harg7 arg8 harg8 hc x0 x1 x2 x3).2.2.1 S256x2048.size (by sl_kernel_rfl) y

end Cert.Kernel5Ideal.Body

end
-- ==== Proof.InRunB.lean ====
/- The layer's input projection, at a row block's later grid points: the body multiplies the normed rows, which the block's
   first point left, by the point's columns of the wide weight.  At any float instance. -/
module

public import proofs.«01_k».proof.Proof.InRunA

@[expose] public section

set_option maxRecDepth 16384

noncomputable section

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at a later point: it touches the wide weight, the normed rows and the wide product's block alone. -/
def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (hc : ¬ k0_cond1 i = 1#1)
    (x2 : Vec F S2048x2048 .bf16) (h : Vec F S1024x2048 .bf16) :
    { L4 : List (View.Piece (Elt F) S1024x2048 .bf16) //
      ∀ (E : Set ℕ) (K : PUnit → sProp 𝕄),
        iprop(owns (c : Thread nD τ) arg4 fullShare x2 ∗ (∃ d, owns (c : Thread nD τ) arg6 fullShare d) ∗ owns (c : Thread nD τ) arg8 fullShare h
            ∗ (iprop(owns (c : Thread nD τ) arg4 fullShare x2
                ∗ (∃ f, arg6.view.loc (c : Thread nD τ) ↦[arg6.view.set]{fullShare} arg6.view.writes (Elt F) f L4)
                ∗ owns (c : Thread nD τ) arg8 fullShare h) -∗ K ⟨⟩))
          ⊢ wp frame (wpE (defs₀ (F := F)) Variants.none c none) E (cc0_in_proj_main i arg2 harg2 arg3 harg3 arg4 harg4 arg5 harg5 arg6 harg6 arg7 harg7 arg8 harg8) K } := by
  refine ⟨?_, fun E K => ?run⟩
  case run =>
    simp only [cc0_in_proj_main_eq_skeleton]; unfold cc0_in_proj_main_skel
    unfold owns
    iintro ⟨⟨%f2, %hf2, H2⟩, ⟨%d4, %f4, -, H4⟩, ⟨%f6, %hf6, H6⟩, Hk⟩
    obtain rfl := harg4.eq_unread hf2; obtain rfl := harg8.eq_unread hf6
    sl_exec (disch := first | sl_exact hc)
    sl_step
    iapply Hk
    isplitl [H2]
    · iexists _; isplitr; · ipureintro; exact harg4.read_unread _
      iexact H2
    isplitl [H4]; · iexists _; iexact H4
    iexists _; isplitr; · ipureintro; exact harg8.read_unread _
    iexact H6

/-- The store of a later point fills the wide product's block. -/
theorem coverB4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (hc : ¬ k0_cond1 i = 1#1)
    (x2 : Vec F S2048x2048 .bf16) (h : Vec F S1024x2048 .bf16) (y : S1024x2048.Idx) :
    ∃ pc ∈ (runB c i arg2 harg2 arg3 harg3 arg4 harg4 arg5 harg5 arg6 harg6 arg7 harg7 arg8 harg8 hc x2 h).1, y ∈ pc.1.set :=
  View.cover_of_tiledL (runB c i arg2 harg2 arg3 harg3 arg4 harg4 arg5 harg5 arg6 harg6 arg7 harg7 arg8 harg8 hc x2 h).1 S1024x2048.size (by sl_kernel_rfl) y

end Cert.Kernel5Ideal.Body

end
-- ==== Proof.InLaunch.lean ====
/- The layer's input projection: the body's two runs put together over the grid.  A row block's first point leaves the normed
   rows and the narrow product in their blocks, which stay there, untouched, until the block's last point has been reached;
   every point leaves its columns of the wide product.  At any float instance. -/
module

public import proofs.«01_k».proof.Proof.InRunB
public import Idealize.ShloMosaic.Lib.Pipeline.TableIdle
public import Idealize.ShloMosaic.Lib.Claim

@[expose] public section

set_option maxRecDepth 16384

noncomputable section

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging memref at a point, and that it is whole. -/
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x2048 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x2048 .bf16 := win0_6.stage (cfg0.slots t 6)
abbrev hs6 (t : Fin cfg0.N) : (ms6 t).IsWhole := hstage0_6 ((cfg0.slots t 6).cast nbuf0_6)

/-- One staging buffer of each result, through which its contents are stated. -/
abbrev VO4 : View sig .tc .vmem S1024x2048 .bf16 := (Memref.whole cc0_stg4_0 : Memref sig .tc .vmem S1024x2048 .bf16).view
abbrev VO5 : View sig .tc .vmem S1024x128 .f32 := (Memref.whole cc0_stg5_0 : Memref sig .tc .vmem S1024x128 .f32).view
abbrev VO6 : View sig .tc .vmem S1024x2048 .bf16 := (Memref.whole cc0_stg6_0 : Memref sig .tc .vmem S1024x2048 .bf16).view

/-- The body's run at a first point, at that point's memrefs and blocks. -/
abbrev firstRun (c : Dev nD) (t : Fin cfg0.N) (h : t.val % 4 = 0) :=
  runA c (grid0.coords t) (ms0 t) (hs0 t) (ms1 t) (hs1 t) (ms2 t) (hs2 t) (ms3 t) (hs3 t) (ms4 t) (hs4 t) (ms5 t) (hs5 t) (ms6 t) (hs6 t)
    ((first_iff t).mpr h) (iblk m c 0 t) (iblk m c 1 t) (iblk m c 2 t) (iblk m c 3 t)

/-- The body's run at a later point, over the normed rows it finds. -/
abbrev laterRun (c : Dev nD) (t : Fin cfg0.N) (h : ¬ t.val % 4 = 0) (x : Vec F S1024x2048 .bf16) :=
  runB c (grid0.coords t) (ms0 t) (hs0 t) (ms1 t) (hs1 t) (ms2 t) (hs2 t) (ms3 t) (hs3 t) (ms4 t) (hs4 t) (ms5 t) (hs5 t) (ms6 t) (hs6 t)
    (fun e => h ((first_iff t).mp e)) (iblk m c 2 t) x

/-- What a first point leaves in the narrow product's block, -/
def abAt (c : Dev nD) (t : Fin cfg0.N) (h : t.val % 4 = 0) : Vec F S1024x128 .f32 :=
  VO5.read (Elt F) (VO5.writes (Elt F) VO5.junk (firstRun m c t h).2.1)
/-- and in the normed rows' block. -/
def hAt (c : Dev nD) (t : Fin cfg0.N) (h : t.val % 4 = 0) : Vec F S1024x2048 .bf16 :=
  VO6.read (Elt F) (VO6.writes (Elt F) VO6.junk (firstRun m c t h).2.2.1)

/-- The first point of a point's row block. -/
def fst (t : Fin cfg0.N) : Fin cfg0.N := ⟨t.val / 4 * 4, lt_of_le_of_lt (Nat.div_mul_le_self _ _) t.isLt⟩
theorem fst_mod (t : Fin cfg0.N) : (fst t).val % 4 = 0 := Nat.mul_mod_left _ _
theorem fst_self (t : Fin cfg0.N) (h : t.val % 4 = 0) : fst t = t := Fin.ext (by simp only [fst]; omega)
theorem fst_pred (t : Fin cfg0.N) (h : ¬ t.val % 4 = 0) (hp : t.val - 1 < cfg0.N) : fst ⟨t.val - 1, hp⟩ = fst t :=
  Fin.ext (by simp only [fst]; omega)

/-- The narrow product of a point's row block, -/
def abOf (c : Dev nD) (t : Fin cfg0.N) : Vec F S1024x128 .f32 := abAt m c (fst t) (fst_mod t)
/-- and its normed rows. -/
def hOf (c : Dev nD) (t : Fin cfg0.N) : Vec F S1024x2048 .bf16 := hAt m c (fst t) (fst_mod t)

theorem abOf_first (c : Dev nD) (t : Fin cfg0.N) (h : t.val % 4 = 0) : abOf m c t = abAt m c t h := by
  have g : ∀ (u : Fin cfg0.N) (hu : u.val % 4 = 0), u = t → abAt m c u hu = abAt m c t h := by rintro u hu rfl; rfl
  exact g _ _ (fst_self t h)
theorem hOf_first (c : Dev nD) (t : Fin cfg0.N) (h : t.val % 4 = 0) : hOf m c t = hAt m c t h := by
  have g : ∀ (u : Fin cfg0.N) (hu : u.val % 4 = 0), u = t → hAt m c u hu = hAt m c t h := by rintro u hu rfl; rfl
  exact g _ _ (fst_self t h)
theorem abOf_congr (c : Dev nD) (t u : Fin cfg0.N) (e : fst t = fst u) : abOf m c t = abOf m c u := by
  have g : ∀ (v w : Fin cfg0.N) (hv : v.val % 4 = 0) (hw : w.val % 4 = 0), v = w → abAt m c v hv = abAt m c w hw := by rintro v w hv hw rfl; rfl
  exact g _ _ _ _ e
theorem hOf_congr (c : Dev nD) (t u : Fin cfg0.N) (e : fst t = fst u) : hOf m c t = hOf m c u := by
  have g : ∀ (v w : Fin cfg0.N) (hv : v.val % 4 = 0) (hw : w.val % 4 = 0), v = w → hAt m c v hv = hAt m c w hw := by rintro v w hv hw rfl; rfl
  exact g _ _ _ _ e

/-- The columns of the wide product that a point leaves. -/
def mainOf (c : Dev nD) (t : Fin cfg0.N) : Vec F S1024x2048 .bf16 :=
  if h : t.val % 4 = 0 then VO4.read (Elt F) (VO4.writes (Elt F) VO4.junk (firstRun m c t h).1)
  else VO4.read (Elt F) (VO4.writes (Elt F) VO4.junk (laterRun m c t h (hOf m c t)).1)

theorem mainOf_first (c : Dev nD) (t : Fin cfg0.N) (h : t.val % 4 = 0) :
    mainOf m c t = VO4.read (Elt F) (VO4.writes (Elt F) VO4.junk (firstRun m c t h).1) := dif_pos h
theorem mainOf_later (c : Dev nD) (t : Fin cfg0.N) (h : ¬ t.val % 4 = 0) :
    mainOf m c t = VO4.read (Elt F) (VO4.writes (Elt F) VO4.junk (laterRun m c t h (hOf m c t)).1) := dif_neg h

/-- The proof data: the arrays as the region finds them, the inputs' blocks left in place, the results' blocks as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => mainOf m c t
    | ⟨5, _⟩ => abOf m c t
    | ⟨6, _⟩ => hOf m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = mainOf m c t := by dsimp only [dats]
theorem after0_5 (c : Dev nD) (t : Fin cfg0.N) : (dats m 0 c).after 5 t = abOf m c t := by dsimp only [dats]
theorem after0_6 (c : Dev nD) (t : Fin cfg0.N) : (dats m 0 c).after 6 t = hOf m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The two results that a row block's later points leave alone -/

/-- At a first point neither is left alone, -/
theorem live (t : Fin cfg0.N) (h : t.val % 4 = 0) : (!(k0_cond1 (grid0.coords t) == 1#1)) = false := by
  rw [(first_iff t).mpr h]; rfl
/-- at a later point both are. -/
theorem idle (t : Fin cfg0.N) (h : ¬ t.val % 4 = 0) : (!(k0_cond1 (grid0.coords t) == 1#1)) = true := by
  have e : ¬ k0_cond1 (grid0.coords t) = 1#1 := fun e => h ((first_iff t).mp e)
  rw [beq_eq_false_iff_ne.mpr e]; rfl

/-- Before a point a result's block holds nothing the body stored exactly at the row blocks' first points. -/
theorem fresh_iff (w : Fin cfg0.W) (hi : ∀ t : Fin cfg0.N, cfg0.idle w (cfg0.grid.coords t) = !(k0_cond1 (grid0.coords t) == 1#1))
    (hf : ∀ t : Fin cfg0.N, (cfg0.win w).flush t = true ↔ t.val % 4 = 3) (t : Fin cfg0.N) :
    cfg0.fresh w t.val = decide (t.val % 4 = 0) := by
  refine cfg0.fresh_tab w (fun n => decide (n % 4 = 0)) rfl (fun t => ?_) t.val (Nat.le_of_lt t.isLt)
  have hf' : (cfg0.win w).flush t = decide (t.val % 4 = 3) := Bool.eq_iff_iff.mpr (by rw [hf t, decide_eq_true_iff])
  rw [hi t, hf']
  by_cases h : t.val % 4 = 0
  · rw [live t h, Bool.false_and, Bool.or_false]; exact decide_eq_decide.mpr (by omega)
  · rw [decide_eq_false h, Bool.and_false, Bool.or_false]; exact decide_eq_decide.mpr (by omega)

/-- A later point finds in such a block what it is to leave there. -/
theorem before_later (c : Dev nD) (w : Fin cfg0.W) (hw : (cfg0.win w).isOut = true)
    (hclip : ∀ (i : cfg0.grid.Coords) a, (cfg0.win w).clip i a = none)
    (hi : ∀ t : Fin cfg0.N, cfg0.idle w (cfg0.grid.coords t) = !(k0_cond1 (grid0.coords t) == 1#1))
    (hf : ∀ t : Fin cfg0.N, (cfg0.win w).flush t = true ↔ t.val % 4 = 3)
    (hc : ∀ t u : Fin cfg0.N, fst t = fst u → (dats m 0 c).after w t = (dats m 0 c).after w u)
    (t : Fin cfg0.N) (h : ¬ t.val % 4 = 0) (d) : (dats m 0 c).before w t d = (dats m 0 c).after w t := by
  have e := (dats m 0 c).before_out_traj w hw hclip (fun t ht hid _ => by
    refine hc _ _ (fst_pred t (fun h0 => ?_) _).symm
    rw [hi t, live t h0] at hid; exact Bool.false_ne_true hid) t.val t rfl d
  rw [e, fresh_iff w hi hf t, if_neg (by rw [decide_eq_false h]; exact Bool.false_ne_true)]
  exact hc _ _ (fst_pred t h _)

theorem before0_5 (c : Dev nD) (t : Fin cfg0.N) (h : ¬ t.val % 4 = 0) (d) : (dats m 0 c).before 5 t d = (dats m 0 c).after 5 t :=
  before_later m c 5 rfl (fun _ _ => rfl) (fun _ => rfl) flush0_5 (fun t u e => by rw [after0_5, after0_5]; exact abOf_congr m c t u e) t h d
theorem before0_6 (c : Dev nD) (t : Fin cfg0.N) (h : ¬ t.val % 4 = 0) (d) : (dats m 0 c).before 6 t d = (dats m 0 c).after 6 t :=
  before_later m c 6 rfl (fun _ _ => rfl) (fun _ => rfl) flush0_6 (fun t u e => by rw [after0_6, after0_6]; exact hOf_congr m c t u e) t h d

/-- A block left as found is left as the later point is to leave it. -/
theorem leaves_later (c : Dev nD) (w : Fin cfg0.W) (t : Fin cfg0.N) (d)
    (hi : cfg0.idle w (cfg0.grid.coords t) = true) (he : (dats m 0 c).before w t d = (dats m 0 c).after w t) :
    owns (c : Thread nD τ) ((cfg0.win w).stage (cfg0.slots t w)) fullShare ((dats m 0 c).before w t d) ⊢ (dats m 0 c).leavesExact w t := by
  unfold Pipeline.Dat.leavesExact
  rw [hi]
  cases (cfg0.win w).flush t
  · iintro H; iexists d; iexact H
  · rw [he]

/-- A block stored at a first point is left at what was stored. -/
theorem leaves_first (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ (dats m 0 c).leavesExact w t := by
  unfold Pipeline.Dat.leavesExact
  rw [hi]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t
    ∗ (dats m 0 c).leavesExact 6 t)

set_option maxHeartbeats 3200000 in
/-- The body at a row block's first point. -/
theorem sound_first (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = (dats m 0 c).Φ t.castSucc from rfl, after0_0, after0_1, after0_2, after0_3, after0_4, mainOf_first m c t h0]
  iintro ⟨Hg, Ho, ⟨%d0, H0⟩, ⟨%d1, H1⟩, ⟨%d2, H2⟩, ⟨%d3, H3⟩, ⟨%d4, H4⟩, ⟨%d5, H5⟩, ⟨%d6, H6⟩⟩
  iapply ((firstRun m c t h0).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [Hg]; · iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverA4 c _ _ _ _ _ _ _ _ _ _ _ _ _ _ _ _ _ _ _ _)
  isplitl [H5]
  · iapply (leaves_first m c 5 t (live t h0))
    rw [after0_5, abOf_first m c t h0]
    unfold owns abAt; iexists _; isplitr
    swap; · iexact H5
    ipureintro; exact View.read_writes_of_cover _ _ _ _ _ (coverA5 c _ _ _ _ _ _ _ _ _ _ _ _ _ _ _ _ _ _ _ _)
  · iapply (leaves_first m c 6 t (live t h0))
    rw [after0_6, hOf_first m c t h0]
    unfold owns hAt; iexists _; isplitr
    swap; · iexact H6
    ipureintro; exact View.read_writes_of_cover _ _ _ _ _ (coverA6 c _ _ _ _ _ _ _ _ _ _ _ _ _ _ _ _ _ _ _ _)

set_option maxHeartbeats 3200000 in
/-- The body at a later point. -/
theorem sound_later (c : Dev nD) (t : Fin cfg0.N) (h0 : ¬ t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = (dats m 0 c).Φ t.castSucc from rfl, after0_0, after0_1, after0_2, after0_3, after0_4, mainOf_later m c t h0]
  iintro ⟨Hg, Ho, ⟨%d0, H0⟩, ⟨%d1, H1⟩, ⟨%d2, H2⟩, ⟨%d3, H3⟩, ⟨%d4, H4⟩, ⟨%d5, H5⟩, ⟨%d6, H6⟩⟩
  iapply ((laterRun m c t h0 (hOf m c t)).2 Set.univ _)
  isplitl [H2]; · iexact H2
  isplitl [H4]; · iexists _; iexact H4
  isplitl [H6]; · rw [before0_6 m c t h0, after0_6]; iexact H6
  iintro ⟨H2, ⟨%e4, H4⟩, H6⟩
  isplitl [Hg]; · iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverB4 c _ _ _ _ _ _ _ _ _ _ _ _ _ _ _ _ _ _)
  isplitl [H5]
  · iapply (leaves_later m c 5 t d5 (idle t h0) (before0_5 m c t h0 d5)); iexact H5
  · iapply (leaves_later m c 6 t d6 (idle t h0) (before0_6 m c t h0 d6)); rw [before0_6 m c t h0, after0_6]; iexact H6

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_first m c t h0
  · exact sound_later m c t h0

theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl
theorem hout (c : Dev nD) : (dats m 0 c).Φ (Fin.last cfg0.N) ⊢ Pipeline.ΦA spec0 c := .rfl

set_option backward.isDefEq.respectTransparency.types false in
/-- The launch runs to its end; the arrays end at the contents the proof data names, and every counter is zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, at any float instance: the argument arrays end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The run with each result array named, the arguments unchanged. -/
theorem run_blocks : θ_run defs (onTc (τ := τ) (main (F := F))) ⟨m, fun _ => 0, ρ⟩ fun r => ∀ c : Dev nD,
      r.2.mem ((c : Thread nD τ).loc main_v9_0) = (dats m 0 c).arrAt 4 cfg0.N
      ∧ r.2.mem ((c : Thread nD τ).loc main_v9_1) = (dats m 0 c).arrAt 5 cfg0.N
      ∧ r.2.mem ((c : Thread nD τ).loc main_v9_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 4, (h c).1 5, (h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel5Ideal.Body

end
-- ==== Proof.InFrame.lean ====
/- The input projection's frame at the machine's own float values, read off the run proved over any float values: the
   two programs have the same text. -/
module

public import proofs.«01_k».proof.Defs
public import proofs.«01_k».proof.Proof.InLaunch
public import proofs.«01_k».proof.Proof.Gen.Kernel5

@[expose] public section

set_option maxRecDepth 200000

namespace Cert.Proof

open Idealize.ShloMosaic Idealize.SL.Sem

/-- The two programs' kernel bodies are the same table. -/
theorem in_table_eq : @Cert.Kernel5.defs₀ Bits _ Cert.Kernel5.Gen.facts = @Cert.Kernel5Ideal.defs₀ Bits _ Cert.Kernel5Ideal.Gen.facts := by
  unfold Cert.Kernel5.defs₀ Cert.Kernel5Ideal.defs₀
  refine congrArg Defs.onTc ?_
  funext ℓ a
  match ℓ, a with
  | ⟨0, _⟩, (t, s) => rfl

/-- The two programs' tables, the pipeline's labels included, are the same. -/
theorem in_defs_eq : @Cert.Kernel5.defs Bits _ Cert.Kernel5.Gen.facts = @Cert.Kernel5Ideal.defs Bits _ Cert.Kernel5Ideal.Gen.facts :=
  congrArg (Pipeline.defs (Cert.Kernel5Ideal.pcfgs (F := Bits))) in_table_eq

/-- The input projection runs, leaves its arguments as they were and every counter at zero. -/
theorem in_frame_kernel : Cert.quiescent_Kernel5 (hKernel5 := Cert.Kernel5.Gen.facts) := fun m ρ _ => by
  have h := Cert.Kernel5Ideal.Body.frame (F := Bits) m ρ
  rw [← in_defs_eq] at h
  exact h

end Cert.Proof

end
-- ==== Proof.Ix.lean ====
module
public import Idealize.ShloMosaic.Lib.Pipeline.ValueKit

/-! Multi-indices built from coordinates are equal when the coordinates are. -/

@[expose] public section

namespace Idealize.ShloMosaic

theorem ix2_of_val {p q : ℕ} {a a' : Fin p} {b b' : Fin q} (ha : a.val = a'.val) (hb : b.val = b'.val) :
    ix2 a b = ix2 a' b' := by rw [Fin.ext ha, Fin.ext hb]

theorem ix3_of_val {p q r : ℕ} {a a' : Fin p} {b b' : Fin q} {d d' : Fin r} (ha : a.val = a'.val)
    (hb : b.val = b'.val) (hd : d.val = d'.val) : ix3 a b d = ix3 a' b' d' := by
  rw [Fin.ext ha, Fin.ext hb, Fin.ext hd]

end Idealize.ShloMosaic

end
-- ==== Proof.InValueA.lean ====
module
public import proofs.«01_k».proof.Proof.InLaunch
public import Idealize.ShloMosaic.Lib.Pipeline.ValueKit
public import Idealize.ShloMosaic.Lib.Pipeline.ReadBack
public import proofs.«01_k».proof.Proof.Ix

/-!
# The layer's input projection: what its blocks hold

The wide weight the kernel reads is the input weight's first 4096 columns and its columns from 8720 on, side by side; the
narrow one is the 16 columns from 4096 on, with zero columns after them.
-/

@[expose] public section

set_option maxRecDepth 16384

noncomputable section

open Idealize.ShloMosaic Idealize.ShloMosaic.TcCoe Idealize.SL.Sem
open Idealize.ShloMosaic.Pipeline (Dat)

namespace Cert.Kernel5Ideal.InProj

open Cert.Kernel5Ideal Cert.Kernel5Ideal.Gen Cert.Kernel5Ideal.Body

variable (m : (ℓ : Loc nD τ sig) → Buf (Elt Ideal) ℓ)

/-- The blocks the windows take at each grid point. -/
theorem idx : ∀ t : Fin cfg0.N, win0_0.index t = ![t.val / 4, 0] ∧ win0_1.index t = ![0, 0]
    ∧ win0_2.index t = ![0, t.val % 4] ∧ win0_3.index t = ![0, 0] ∧ win0_4.index t = ![t.val / 4, t.val % 4]
    ∧ win0_5.index t = ![t.val / 4, 0] ∧ win0_6.index t = ![t.val / 4, 0] :=
  (by decide +kernel : ∀ t : Fin grid0.N, _)

/-- Where a trip of the loop stores its tile. -/
theorem off : ∀ k : Fin k0_t1_loop.trips, k0_off1 k = ![k.val * 256, 0] := by decide +kernel

/-- An entry of the normed activations. -/
def entry (X : FVec Ideal S2x16384x2048 .f32) (W : FVec Ideal S2048 .f32) (i : Fin 2) (r : Fin 16384) (k : Fin 2048) : EReal :=
  X (ix3 i r k) * Ideal.rsqrt (Ideal.div (∑ l, X (ix3 i r l) * X (ix3 i r l)) (Ideal.ofBits .f32 0x45000000#32)
    + Ideal.ofBits .f32 0x358637BD#32) * W (ix1 k)

/-- The input weight's column that the wide weight's column `l` is. -/
def col (l : Fin 8192) : Fin 12816 := if h : l.val < 4096 then ⟨l.val, by omega⟩ else ⟨8720 + (l.val - 4096), by omega⟩

/-- The narrow weight's entries. -/
def narrow (U : FVec Ideal S2048x12816 .f32) (k : Fin 2048) (l : Fin 128) : EReal :=
  if h : l.val < 16 then U (ix2 k ⟨4096 + l.val, by omega⟩) else 0

/-- The arrays the host prepares for the kernel: the activations' rows, -/
theorem V7 (c : Dev nD) : V m c main_v7
    = shapeCast S32768x2048 (m ((c : Thread nD τ).loc main_arg0) : FVec Ideal S2x16384x2048 .f32) shapeCasts_S2x16384x2048_S32768x2048 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-- the norm's weight, -/
theorem V8 (c : Dev nD) : V m c main_v8
    = shapeCast S1x2048 (m ((c : Thread nD τ).loc main_arg1) : FVec Ideal S2048 .f32) shapeCasts_S2048_S1x2048 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-- the wide weight, -/
theorem V3 (c : Dev nD) : V m c main_v3
    = truncf .bf16 (concatenate S2048x8192 1
        [⟨S2048x4096, extractStridedSlice S2048x4096 ![0, 0] (m ((c : Thread nD τ).loc main_arg2) : FVec Ideal S2048x12816 .f32) slices_S2048x12816_S2048x4096_0_0⟩,
         ⟨S2048x4096, extractStridedSlice S2048x4096 ![0, 8720] (m ((c : Thread nD τ).loc main_arg2) : FVec Ideal S2048x12816 .f32) slices_S2048x12816_S2048x4096_0_8720⟩]
        concatenates_S2048x4096_S2048x4096_S2048x8192_d1 : FVec Ideal S2048x8192 .f32) bitsLt_bf16_f32 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-- and the narrow one. -/
theorem V6 (c : Dev nD) : V m c main_v6
    = truncf .bf16 (pad S2048x128 ![0, 0] ![0, 112] ![0, 0]
        (extractStridedSlice S2048x16 ![0, 4096] (m ((c : Thread nD τ).loc main_arg2) : FVec Ideal S2048x12816 .f32) slices_S2048x12816_S2048x16_0_4096)
        (sitofp .f32 (constantI S_ 32 0#32) : FVec Ideal S_ .f32) pads_S2048x16_S2048x128_000_01120 h_S_) bitsLt_bf16_f32 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-- The activations' rows at a row and a column. -/
theorem rows_at (X : FVec Ideal S2x16384x2048 .f32) (z : S32768x2048.Idx) :
    shapeCast S32768x2048 X shapeCasts_S2x16384x2048_S32768x2048 z
      = X (ix3 ⟨(z 0).val / 16384, by have := (z 0).isLt; change (z 0).val < 32768 at this; omega⟩ ⟨(z 0).val % 16384, Nat.mod_lt _ (by decide)⟩ (z 1)) := by
  pointwise

theorem V7_at (c : Dev nD) (z : S32768x2048.Idx) (i : Fin 2) (r : Fin 16384) (k : Fin 2048)
    (h0 : (z 0).val = i.val * 16384 + r.val) (h1 : (z 1).val = k.val) :
    (V m c main_v7 : FVec Ideal S32768x2048 .f32) z
      = (m ((c : Thread nD τ).loc main_arg0) : FVec Ideal S2x16384x2048 .f32) (ix3 i r k) := by
  rw [V7, rows_at]
  refine congrArg _ (ix3_of_val ?_ ?_ h1)
  · show (z 0).val / 16384 = i.val
    omega
  · show (z 0).val % 16384 = r.val
    omega

/-- The norm's weight at a column. -/
theorem V8_at (c : Dev nD) (z : S1x2048.Idx) (k : Fin 2048) (h1 : (z 1).val = k.val) :
    (V m c main_v8 : FVec Ideal S1x2048 .f32) z = (m ((c : Thread nD τ).loc main_arg1) : FVec Ideal S2048 .f32) (ix1 k) := by
  rw [V8]
  pointwise
  refine congrArg _ ?_
  funext b; apply Fin.ext; fin_cases b
  exact h1

/-- A row of the activations at a grid point. -/
theorem read0 (c : Dev nD) (t : Fin cfg0.N) (a : Fin 1024) (k : Fin 2048) (i : Fin 2) (r : Fin 16384)
    (h : t.val / 4 * 1024 + a.val = i.val * 16384 + r.val) :
    (show FVec Ideal S1024x2048 .f32 from iblk m c 0 t) (ix2 a k)
      = (m ((c : Thread nD τ).loc main_arg0) : FVec Ideal S2x16384x2048 .f32) (ix3 i r k) := by
  refine V7_at m c _ i r k ?_ ?_
  · blk_simp [idx t]; exact h
  · blk_simp [idx t]

/-- The norm's weight at a grid point. -/
theorem read1 (c : Dev nD) (t : Fin cfg0.N) (a : Fin 1) (k : Fin 2048) :
    (show FVec Ideal S1x2048 .f32 from iblk m c 1 t) (ix2 a k)
      = (m ((c : Thread nD τ).loc main_arg1) : FVec Ideal S2048 .f32) (ix1 k) := by
  refine V8_at m c _ k ?_
  blk_simp [idx t]

/-- The wide weight at a row and a column. -/
theorem V3_at (c : Dev nD) (z : S2048x8192.Idx) (k : Fin 2048) (l : Fin 8192) (h0 : (z 0).val = k.val) (h1 : (z 1).val = l.val) :
    (V m c main_v3 : FVec Ideal S2048x8192 .bf16) z
      = (m ((c : Thread nD τ).loc main_arg2) : FVec Ideal S2048x12816 .f32) (ix2 k (col l)) := by
  have hz : z = ix2 k l := by funext b; apply Fin.ext; fin_cases b <;> assumption
  subst hz
  rw [V3]
  pointwise
  unfold col
  by_cases h : l.val < 4096
  · simp only [h, dite_true]
  · simp only [h, dite_false]

/-- The narrow weight at a row and a column. -/
theorem V6_at (c : Dev nD) (z : S2048x128.Idx) (k : Fin 2048) (l : Fin 128) (h0 : (z 0).val = k.val) (h1 : (z 1).val = l.val) :
    (V m c main_v6 : FVec Ideal S2048x128 .bf16) z
      = narrow (m ((c : Thread nD τ).loc main_arg2)) k l := by
  have hz : z = ix2 k l := by funext b; apply Fin.ext; fin_cases b <;> assumption
  subst hz
  rw [V6]
  pointwise
  unfold narrow
  by_cases h : l.val < 16
  · simp only [h, dite_true]
  · simp only [h, dite_false]
    simp [FloatOps.sitofp]

/-- A column of the wide weight at a grid point. -/
theorem read2 (c : Dev nD) (t : Fin cfg0.N) (k : Fin 2048) (j : Fin 2048) (l : Fin 8192)
    (h : l.val = t.val % 4 * 2048 + j.val) :
    (show FVec Ideal S2048x2048 .bf16 from iblk m c 2 t) (ix2 k j)
      = (m ((c : Thread nD τ).loc main_arg2) : FVec Ideal S2048x12816 .f32) (ix2 k (col l)) := by
  refine V3_at m c _ k l ?_ ?_
  · blk_simp [idx t]
  · blk_simp [idx t]; omega

/-- A column of the narrow weight at a grid point. -/
theorem read3 (c : Dev nD) (t : Fin cfg0.N) (k : Fin 2048) (l : Fin 128) :
    (show FVec Ideal S2048x128 .bf16 from iblk m c 3 t) (ix2 k l)
      = narrow (m ((c : Thread nD τ).loc main_arg2)) k l := by
  refine V6_at m c _ k l ?_ ?_
  · blk_simp [idx t]
  · blk_simp [idx t]

end Cert.Kernel5Ideal.InProj
end
-- ==== Proof.InValueB.lean ====
module
public import proofs.«01_k».proof.Proof.InValueA

/-!
# The layer's input projection: what a grid point leaves in the results' blocks

A row block's first grid point norms the block's 1024 rows, in four tiles, into a result's block that the row block's later
points read; each point multiplies these rows by its 2048 columns of the wide weight, the first also by the narrow weight.
-/

@[expose] public section

set_option maxRecDepth 16384

noncomputable section

open Idealize.ShloMosaic Idealize.ShloMosaic.TcCoe Idealize.SL.Sem
open Idealize.ShloMosaic.Pipeline (Dat)

namespace Cert.Kernel5Ideal.InProj

open Cert.Kernel5Ideal Cert.Kernel5Ideal.Gen Cert.Kernel5Ideal.Body

variable (m : (ℓ : Loc nD τ sig) → Buf (Elt Ideal) ℓ)

/-- What one trip stores at an index of its tile. -/
theorem norm_point (w : Vec Ideal S1x2048 .f32) (x : Vec Ideal S256x2048 .f32) (b : Fin 256) (k : Fin 2048)
    (X : FVec Ideal S2x16384x2048 .f32) (W : FVec Ideal S2048 .f32) (i : Fin 2) (r : Fin 16384)
    (hx : ∀ l : Fin 2048, (x : FVec Ideal S256x2048 .f32) (ix2 b l) = X (ix3 i r l))
    (hw : ∀ l : Fin 2048, (w : FVec Ideal S1x2048 .f32) (ix2 0 l) = W (ix1 l)) :
    k0_pay1 w x (ix2 b k) = entry X W i r k := by
  pointwise [k0_pay1, entry]
  simp only [hx, hw]

/-- Every piece that the loop's trips store is some trip's tile. -/
theorem pieces (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (h : k0_cond1 i = 1#1) (v10 : Vec Ideal S1x2048 .f32) (X : BufTy.Contents (Elt Ideal) arg2.view.ty) :
    ∀ n, n ≤ k0_t1_loop.trips → ∀ p ∈ pb_k0_t1 𝒱 c bd i arg2 harg2 arg3 harg3 arg4 harg4 arg5 harg5 arg6 harg6 arg7 harg7 arg8 harg8 h v10 X n,
      ∃ k : Fin k0_t1_loop.trips, p = ⟨Rect.unit (s := S1024x2048) (k0_off1 k) S256x2048.size (k0_off1_inb i k h),
        k0_pay1 v10 (View.readAt (Elt Ideal) arg2.view (Rect.unit (s := S1024x2048) (k0_off1 k) S256x2048.size (k0_off1_inb i k h)).toLoadRect X)⟩ := by
  intro n
  induction n with
  | zero => intro _ p hp; exact absurd hp (by rw [pb_k0_t1.eq_1]; exact List.not_mem_nil)
  | succ n ih =>
    intro hn p hp
    have e := pb_k0_t1_succ 𝒱 c bd i arg2 harg2 arg3 harg3 arg4 harg4 arg5 harg5 arg6 harg6 arg7 harg7 arg8 harg8 h v10 X ⟨n, hn⟩
    dsimp only at e
    rw [e] at hp
    rcases List.mem_append.mp hp with hp | hp
    · unfold tripL_k0_t1 trip_k0_t1 at hp
      exact ⟨_, List.mem_singleton.mp hp⟩
    · exact ih (by omega) p hp

/-- The first point of a row block leaves the normed rows in their block. -/
theorem hAt_point (c : Dev nD) (t : Fin cfg0.N) (ht : t.val % 4 = 0) (a : Fin 1024) (k : Fin 2048) (i : Fin 2) (r : Fin 16384)
    (h : t.val / 4 * 1024 + a.val = i.val * 16384 + r.val) :
    (hAt m c t ht : FVec Ideal S1024x2048 .bf16) (ix2 a k)
      = entry (m ((c : Thread nD τ).loc main_arg0)) (m ((c : Thread nD τ).loc main_arg1)) i r k := by
  have hcov := coverA6 c (grid0.coords t) (ms0 t) (hs0 t) (ms1 t) (hs1 t) (ms2 t) (hs2 t) (ms3 t) (hs3 t) (ms4 t) (hs4 t) (ms5 t) (hs5 t)
    (ms6 t) (hs6 t) ((first_iff t).mpr ht) (iblk m c 0 t) (iblk m c 1 t) (iblk m c 2 t) (iblk m c 3 t) (ix2 a k)
  unfold runA at hcov
  dsimp only at hcov
  unfold hAt firstRun runA
  dsimp only
  frame_out
  refine View.canon_eq_of_allAt _ _ _ ?_ ?_
  · rw [View.readAt_eq_ld, Memref.IsWhole.read_unread, View.ld_unit_zero] at hcov
    · exact hcov
    · funext a; fin_cases a <;> rfl
  intro p hp x hx
  obtain ⟨q, rfl⟩ := pieces _ _ _ _ _ _ _ _ _ _ _ _ _ _ _ _ _ _ _ _ _ _ le_rfl p hp
  have hq := off q
  have e0 := congrArg (fun z : S1024x2048.Idx => (z 0).val) hx
  have e1 := congrArg (fun z : S1024x2048.Idx => (z 1).val) hx
  simp [Rect.emb_apply, hq] at e0 e1
  rw [View.readAt_eq_ld, Memref.IsWhole.read_unread]
  have hq4 : q.val < 4 := lt_of_lt_of_eq q.isLt (by decide)
  have hb : (x 0).val < 256 := (x 0).isLt
  have hxe : x = (ix2 (⟨(x 0).val, hb⟩ : Fin 256) k : S256x2048.Idx) := by
    funext a; apply Fin.ext; fin_cases a
    · rfl
    · exact e1
  rw [hxe]
  refine norm_point _ _ _ _ _ _ i r (fun l => ?_) (fun l => read1 m c t 0 l)
  rw [← read0 m c t a l i r h]
  refine congrArg (iblk m c 0 t) ?_
  funext b; apply Fin.ext; fin_cases b
  · simp [Rect.emb_apply, hq]; omega
  · simp [Rect.emb_apply, hq]

/-- The normed rows that a point finds or leaves. -/
theorem hOf_point (c : Dev nD) (t : Fin cfg0.N) (a : Fin 1024) (k : Fin 2048) (i : Fin 2) (r : Fin 16384)
    (h : t.val / 4 * 1024 + a.val = i.val * 16384 + r.val) :
    (hOf m c t : FVec Ideal S1024x2048 .bf16) (ix2 a k)
      = entry (m ((c : Thread nD τ).loc main_arg0)) (m ((c : Thread nD τ).loc main_arg1)) i r k :=
  hAt_point m c (fst t) (fst_mod t) a k i r (by simp only [fst]; omega)

/-- The narrow product that a row block's first point leaves. -/
theorem abAt_eq (c : Dev nD) (t : Fin cfg0.N) (ht : t.val % 4 = 0) :
    abAt m c t ht = k0_pay2 (hAt m c t ht) (iblk m c 3 t) := by
  have hcov := coverA6 c (grid0.coords t) (ms0 t) (hs0 t) (ms1 t) (hs1 t) (ms2 t) (hs2 t) (ms3 t) (hs3 t) (ms4 t) (hs4 t) (ms5 t) (hs5 t)
    (ms6 t) (hs6 t) ((first_iff t).mpr ht) (iblk m c 0 t) (iblk m c 1 t) (iblk m c 2 t) (iblk m c 3 t)
  unfold runA at hcov
  dsimp only at hcov
  rw [View.readAt_eq_ld, Memref.IsWhole.read_unread, View.ld_unit_zero] at hcov
  · unfold abAt hAt firstRun runA
    dsimp only
    frame_out
    rw [View.readCov_eq_canon_ld _ _ _ hcov, View.ld_unit_zero]
    funext a; fin_cases a <;> rfl
  · funext a; fin_cases a <;> rfl

/-- The columns of the wide product that a point leaves. -/
theorem mainOf_eq (c : Dev nD) (t : Fin cfg0.N) : mainOf m c t = k0_pay3 (hOf m c t) (iblk m c 2 t) := by
  by_cases ht : t.val % 4 = 0
  · have hcov := coverA6 c (grid0.coords t) (ms0 t) (hs0 t) (ms1 t) (hs1 t) (ms2 t) (hs2 t) (ms3 t) (hs3 t) (ms4 t) (hs4 t) (ms5 t) (hs5 t)
      (ms6 t) (hs6 t) ((first_iff t).mpr ht) (iblk m c 0 t) (iblk m c 1 t) (iblk m c 2 t) (iblk m c 3 t)
    unfold runA at hcov
    dsimp only at hcov
    rw [View.readAt_eq_ld, Memref.IsWhole.read_unread, View.ld_unit_zero] at hcov
    · rw [mainOf_first m c t ht, hOf_first m c t ht]
      unfold hAt firstRun runA
      dsimp only
      frame_out
      rw [View.readCov_eq_canon_ld _ _ _ hcov, View.ld_unit_zero]
      funext a; fin_cases a <;> rfl
    · funext a; fin_cases a <;> rfl
  · rw [mainOf_later m c t ht]
    unfold laterRun runB
    dsimp only
    frame_out

end Cert.Kernel5Ideal.InProj
end
-- ==== Proof.InValue.lean ====
module
public import proofs.«01_k».proof.Proof.InValueB
public import proofs.«01_k».proof.Proof.Gen.Reference5Ideal.Run

/-!
# The layer's input projection: its result arrays are the reference's
-/

@[expose] public section

set_option maxRecDepth 16384

noncomputable section

open Idealize.ShloMosaic Idealize.ShloMosaic.TcCoe Idealize.SL.Sem
open Idealize.ShloMosaic.Pipeline (Dat)

namespace Cert.Kernel5Ideal.InProj

open Cert.Kernel5Ideal Cert.Kernel5Ideal.Gen Cert.Kernel5Ideal.Body

variable (m : (ℓ : Loc nD τ sig) → Buf (Elt Ideal) ℓ)

/-- The reference's normed activations: a row over the root of its mean square, times the norm's weight. -/
abbrev REFnorm (X : FVec Ideal S2x16384x2048 .f32) (W : FVec Ideal S2048 .f32) : FVec Ideal S2x16384x2048 .f32 :=
  mulf (mulf X (broadcastInDim S2x16384x2048 ![0, 1, 2] Cert.Reference5Ideal.Gen.bcast_S2x16384x1_S2x16384x2048_0_1_2
    (Host.rsqrt (addf (Host.divf (broadcastInDim Cert.Reference5Ideal.S2x16384x1 ![0, 1] Cert.Reference5Ideal.Gen.bcast_S2x16384_S2x16384x1_0_1
      (Host.reduceAdd (mulf X X) (constant Cert.Reference5Ideal.S_ .f32 0x00000000#32) Cert.Reference5Ideal.Gen.reducesTo_S2x16384x2048_S2x16384_d2 Cert.Reference5Ideal.Gen.h_S_))
      (broadcastInDim Cert.Reference5Ideal.S2x16384x1 ![] Cert.Reference5Ideal.Gen.bcast_S_S2x16384x1 (constant Cert.Reference5Ideal.S_ .f32 0x45000000#32)))
      (broadcastInDim Cert.Reference5Ideal.S2x16384x1 ![] Cert.Reference5Ideal.Gen.bcast_S_S2x16384x1 (constant Cert.Reference5Ideal.S_ .f32 0x358637BD#32))))))
    (broadcastInDim S2x16384x2048 ![0, 1, 2] Cert.Reference5Ideal.Gen.bcast_S1x1x2048_S2x16384x2048_0_1_2
      (broadcastInDim Cert.Reference5Ideal.S1x1x2048 ![2] Cert.Reference5Ideal.Gen.bcast_S2048_S1x1x2048_2 W))

/-- The reference's projection of the normed activations. -/
abbrev REFproj (X : FVec Ideal S2x16384x2048 .f32) (W : FVec Ideal S2048 .f32) (U : FVec Ideal S2048x12816 .f32) :
    FVec Ideal Cert.Reference5Ideal.S2x16384x12816 .f32 :=
  Host.dotGeneral Cert.Reference5Ideal.dot_S2x16384x2048_S2048x12816_S2x16384x12816_2_0_01_1_n_n none (REFnorm X W) U

/-- The reference's three results, over the three arguments: the wide columns, -/
abbrev REFmain (X : FVec Ideal S2x16384x2048 .f32) (W : FVec Ideal S2048 .f32) (U : FVec Ideal S2048x12816 .f32) : FVec Ideal S32768x8192 .bf16 :=
  truncf .bf16 (shapeCast _ (concatenate Cert.Reference5Ideal.S2x16384x8192 2
    [⟨Cert.Reference5Ideal.S2x16384x4096, extractStridedSlice Cert.Reference5Ideal.S2x16384x4096 ![0, 0, 0] (REFproj X W U) Cert.Reference5Ideal.Gen.slices_S2x16384x12816_S2x16384x4096_0_0_0⟩,
     ⟨Cert.Reference5Ideal.S2x16384x4096, extractStridedSlice Cert.Reference5Ideal.S2x16384x4096 ![0, 0, 8720] (REFproj X W U) Cert.Reference5Ideal.Gen.slices_S2x16384x12816_S2x16384x4096_0_0_8720⟩]
    Cert.Reference5Ideal.Gen.concatenates_S2x16384x4096_S2x16384x4096_S2x16384x8192_d2) Cert.Reference5Ideal.Gen.shapeCasts_S2x16384x8192_S32768x8192)
    Cert.Reference5Ideal.Gen.bitsLt_bf16_f32

/-- the narrow ones, with zero columns after them, -/
abbrev REFab (X : FVec Ideal S2x16384x2048 .f32) (W : FVec Ideal S2048 .f32) (U : FVec Ideal S2048x12816 .f32) : FVec Ideal S32768x128 .f32 :=
  shapeCast _ (pad Cert.Reference5Ideal.S2x16384x128 ![0, 0, 0] ![0, 0, 112] ![0, 0, 0]
    (extractStridedSlice Cert.Reference5Ideal.S2x16384x16 ![0, 0, 4096] (REFproj X W U) Cert.Reference5Ideal.Gen.slices_S2x16384x12816_S2x16384x16_0_0_4096)
    (sitofp .f32 (constantI Cert.Reference5Ideal.S_ 32 0#32)) Cert.Reference5Ideal.Gen.pads_S2x16384x16_S2x16384x128_000_000_01120 Cert.Reference5Ideal.Gen.h_S_)
    Cert.Reference5Ideal.Gen.shapeCasts_S2x16384x128_S32768x128

/-- and the normed rows. -/
abbrev REFh (X : FVec Ideal S2x16384x2048 .f32) (W : FVec Ideal S2048 .f32) : FVec Ideal S32768x2048 .bf16 :=
  truncf .bf16 (shapeCast _ (REFnorm X W) Cert.Reference5Ideal.Gen.shapeCasts_S2x16384x2048_S32768x2048) Cert.Reference5Ideal.Gen.bitsLt_bf16_f32

/-- An entry of the reference's projection. -/
theorem proj_at (X : FVec Ideal S2x16384x2048 .f32) (W : FVec Ideal S2048 .f32) (U : FVec Ideal S2048x12816 .f32)
    (i : Fin 2) (r : Fin 16384) (l : Fin 12816) :
    REFproj X W U (ix3 i r l) = ∑ k : Fin 2048, entry X W i r k * U (ix2 k l) := by
  pointwise [REFproj, REFnorm, entry]

theorem main_at (X : FVec Ideal S2x16384x2048 .f32) (W : FVec Ideal S2048 .f32) (U : FVec Ideal S2048x12816 .f32) (z : S32768x8192.Idx) :
    REFmain X W U z = REFproj X W U (ix3 ⟨(z 0).val / 16384, by have := (z 0).isLt; change (z 0).val < 32768 at this; omega⟩
      ⟨(z 0).val % 16384, Nat.mod_lt _ (by decide)⟩ (col (z 1))) := by
  unfold REFmain
  generalize REFproj X W U = P
  pointwise
  unfold col
  split <;> rfl

theorem ab_at (X : FVec Ideal S2x16384x2048 .f32) (W : FVec Ideal S2048 .f32) (U : FVec Ideal S2048x12816 .f32) (z : S32768x128.Idx) :
    REFab X W U z = ∑ k : Fin 2048, entry X W ⟨(z 0).val / 16384, by have := (z 0).isLt; change (z 0).val < 32768 at this; omega⟩
      ⟨(z 0).val % 16384, Nat.mod_lt _ (by decide)⟩ k * narrow U k (z 1) := by
  have e := proj_at X W U
  unfold REFab
  generalize REFproj X W U = P at e
  pointwise
  unfold narrow
  by_cases h : (z 1).val < 16
  · have h0 : (z 0).val / 16384 < 2 := by have := (z 0).isLt; change (z 0).val < 32768 at this; omega
    have h1 : (z 0).val % 16384 < 16384 := Nat.mod_lt _ (by decide)
    simp only [h, h0, h1, and_self, dite_true, e]
  · simp only [h, dite_false, mul_zero, Finset.sum_const_zero]
    simp [FloatOps.sitofp]

theorem h_at (X : FVec Ideal S2x16384x2048 .f32) (W : FVec Ideal S2048 .f32) (z : S32768x2048.Idx) :
    REFh X W z = entry X W ⟨(z 0).val / 16384, by have := (z 0).isLt; change (z 0).val < 32768 at this; omega⟩
      ⟨(z 0).val % 16384, Nat.mod_lt _ (by decide)⟩ (z 1) := by
  pointwise [REFh, REFnorm, entry]

/-- What a point leaves in the wide product's block is the reference at the row and column of the block, -/
theorem main_point (c : Dev nD) (t : Fin cfg0.N) (y : S1024x2048.Idx) (z : S32768x8192.Idx)
    (e0 : (z 0).val = t.val / 4 * 1024 + (y 0).val) (e1 : (z 1).val = t.val % 4 * 2048 + (y 1).val) :
    k0_pay3 (hOf m c t) (iblk m c 2 t) y
      = REFmain (m ((c : Thread nD τ).loc main_arg0)) (m ((c : Thread nD τ).loc main_arg1)) (m ((c : Thread nD τ).loc main_arg2)) z := by
  rw [main_at, proj_at]
  pointwise [k0_pay3]
  have hz : t.val / 4 * 1024 + (y 0).val = (z 0).val / 16384 * 16384 + (z 0).val % 16384 := by omega
  refine Finset.sum_congr rfl fun k _ => congrArg₂ _ ?_ ?_
  · refine hOf_point m c t (y 0) k _ _ ?_
    exact hz
  · refine read2 m c t k (y 1) (z 1) ?_
    exact e1

/-- so is what it leaves in the narrow product's, -/
theorem ab_point (c : Dev nD) (t : Fin cfg0.N) (y : S1024x128.Idx) (z : S32768x128.Idx)
    (e0 : (z 0).val = t.val / 4 * 1024 + (y 0).val) (e1 : (z 1).val = (y 1).val) :
    k0_pay2 (hOf m c t) (iblk m c 3 (fst t)) y
      = REFab (m ((c : Thread nD τ).loc main_arg0)) (m ((c : Thread nD τ).loc main_arg1)) (m ((c : Thread nD τ).loc main_arg2)) z := by
  rw [ab_at]
  pointwise [k0_pay2]
  have hz : t.val / 4 * 1024 + (y 0).val = (z 0).val / 16384 * 16384 + (z 0).val % 16384 := by omega
  have hy : y 1 = z 1 := Fin.ext e1.symm
  refine Finset.sum_congr rfl fun k _ => congrArg₂ _ ?_ ?_
  · refine hOf_point m c t (y 0) k _ _ ?_
    exact hz
  · rw [← hy]
    exact read3 m c (fst t) k (y 1)

/-- and in the normed rows'. -/
theorem h_point (c : Dev nD) (t : Fin cfg0.N) (y : S1024x2048.Idx) (z : S32768x2048.Idx)
    (e0 : (z 0).val = t.val / 4 * 1024 + (y 0).val) (e1 : (z 1).val = (y 1).val) :
    (hOf m c t : FVec Ideal S1024x2048 .bf16) y = REFh (m ((c : Thread nD τ).loc main_arg0)) (m ((c : Thread nD τ).loc main_arg1)) z := by
  rw [h_at]
  have hz : t.val / 4 * 1024 + (y 0).val = (z 0).val / 16384 * 16384 + (z 0).val % 16384 := by omega
  have hy : y = ix2 (y 0) (z 1) := by
    funext b; apply Fin.ext; fin_cases b
    · rfl
    · exact e1.symm
  rw [hy]
  refine hOf_point m c t (y 0) (z 1) _ _ ?_
  exact hz

/-- The result arrays after the run: the wide product, -/
theorem final_main (c : Dev nD) : (dats m 0 c).arrAt 4 cfg0.N
    = REFmain (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, mainOf_eq m c t]
  exact main_point m c t y _ (by blk_simp [idx t]) (by blk_simp [idx t])

/-- the narrow product, -/
theorem final_ab (c : Dev nD) : (dats m 0 c).arrAt 5 cfg0.N
    = REFab (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold abOf
  rw [abAt_eq]
  exact ab_point m c t y _ (by blk_simp [idx t]) (by blk_simp [idx t])

/-- and the normed rows. -/
theorem final_h (c : Dev nD) : (dats m 0 c).arrAt 6 cfg0.N
    = REFh (m ((c : Thread nD τ).loc main_arg0)) (m ((c : Thread nD τ).loc main_arg1)) := by
  refine (dats m 0 c).arrAt_eq_of_covers 6 _ (by decide +kernel) fun t hf y => ?_
  blk_simp
  rw [after0_6]
  exact h_point m c t y _ (by blk_simp [idx t]) (by blk_simp [idx t])

end Cert.Kernel5Ideal.InProj
end
-- ==== Proof.MixValue.lean ====
module
public import proofs.«01_k».proof.Proof.Gen.Kernel4Ideal.Value
public import proofs.«01_k».proof.Proof.Gen.Reference4Ideal.Run
public import Idealize.ShloMosaic.Lib.Pipeline.ValueKit
public import proofs.«01_k».proof.Proof.Ix

/-!
# The gated merge and the output projection: what its result array holds

Each grid point owns a block of 512 rows: it multiplies the two branches' rows by their projections, weighs each
product by a gate, adds the two, multiplies by the output projection and adds the residual rows. The kernel writes the
gate as half a hyperbolic tangent of half the input plus a half; the reference as one over one plus an exponential.
The two agree at every extended real.
-/

@[expose] public section

set_option maxRecDepth 16384

noncomputable section

open Idealize.ShloMosaic Idealize.ShloMosaic.TcCoe Idealize.SL.Sem
open Idealize.ShloMosaic.Pipeline (Dat)

namespace Cert.Kernel4Ideal.Mix

open Cert.Kernel4Ideal Cert.Kernel4Ideal.Gen

variable (m : (ℓ : Loc nD τ sig) → Buf (Elt Ideal) ℓ)

/-- The logistic function through the hyperbolic tangent, on the reals. -/
theorem real_gate (x : ℝ) : 1 / 2 * Real.tanh (1 / 2 * x) + 1 / 2 = (1 + Real.exp (-x))⁻¹ := by
  have e1 : Real.exp (1 / 2 * x) ≠ 0 := (Real.exp_pos _).ne'
  have e2 : Real.exp (-x) = (Real.exp (1 / 2 * x))⁻¹ * (Real.exp (1 / 2 * x))⁻¹ := by
    rw [← Real.exp_neg, ← Real.exp_add]; congr 1; ring
  rw [Real.tanh_eq_sinh_div_cosh, Real.sinh_eq, Real.cosh_eq, Real.exp_neg, e2]
  have hp := Real.exp_pos (1 / 2 * x)
  generalize Real.exp (1 / 2 * x) = e at *
  have : e + e⁻¹ ≠ 0 := by positivity
  have : 1 + e⁻¹ * e⁻¹ ≠ 0 := by positivity
  field_simp
  ring

/-- The logistic function through the hyperbolic tangent, on the extended reals. -/
theorem gate (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, ← EReal.coe_one, ← EReal.coe_neg,
      ← EReal.coe_mul, ← EReal.coe_add, ← EReal.coe_zero]
    norm_num
  | top =>
    rw [EReal.coe_mul_top_of_pos (by norm_num), Ideal.tanh_top, Ideal.logistic_top, ← EReal.coe_one,
      ← EReal.coe_mul, ← EReal.coe_add]
    norm_num
  | coe x => rw [← EReal.coe_mul, Ideal.tanh_coe, Ideal.logistic_coe, ← EReal.coe_mul, ← EReal.coe_add, real_gate]

/-- The literal one half. -/
theorem half : Ideal.ofBits .f32 0x3F000000#32 = ((1 / 2 : ℝ) : EReal) := by
  simp [Ideal.ofBits, Ideal.ieee, -EReal.coe_mul]
  norm_num

/-- The reference's gate: one over one plus an exponential of the negated slice. -/
abbrev REFgate (P : FVec Ideal S2x16384x8192 .f32) (a : ℕ) (h : S2x16384x8192.Slices ![0, 0, a] Cert.Reference4Ideal.S2x16384x2048) :
    FVec Ideal S2x16384x2048 .f32 :=
  Host.divf (broadcastInDim Cert.Reference4Ideal.S2x16384x2048 ![] Cert.Reference4Ideal.Gen.bcast_S_S2x16384x2048 (constant (F := Ideal) Cert.Reference4Ideal.S_ .f32 0x3F800000#32))
    (addf (broadcastInDim Cert.Reference4Ideal.S2x16384x2048 ![] Cert.Reference4Ideal.Gen.bcast_S_S2x16384x2048 (constant (F := Ideal) Cert.Reference4Ideal.S_ .f32 0x3F800000#32))
      (Host.exp (Host.negf (extractStridedSlice Cert.Reference4Ideal.S2x16384x2048 ![0, 0, a] P h))))

/-- The reference's result, over the seven arguments. -/
abbrev REF (Oa : FVec Ideal S2x16384x1024 .f32) (Ob : FVec Ideal S2x16384x512 .f32) (Wa : FVec Ideal S1024x2048 .f32)
    (Wb : FVec Ideal S512x2048 .f32) (P : FVec Ideal S2x16384x8192 .f32) (Wo : FVec Ideal S2048x2048 .f32)
    (X : FVec Ideal S2x16384x2048 .f32) : FVec Ideal S32768x2048 .f32 :=
  shapeCast _ (addf X (Host.dotGeneral Cert.Reference4Ideal.dot_S2x16384x2048_S2048x2048_S2x16384x2048_2_0_01_1_n_n none
    (addf (mulf (REFgate P 4096 Cert.Reference4Ideal.Gen.slices_S2x16384x8192_S2x16384x2048_0_0_4096)
        (Host.dotGeneral Cert.Reference4Ideal.dot_S2x16384x1024_S1024x2048_S2x16384x2048_2_0_01_1_n_n none Oa Wa))
      (mulf (REFgate P 6144 Cert.Reference4Ideal.Gen.slices_S2x16384x8192_S2x16384x2048_0_0_6144)
        (Host.dotGeneral Cert.Reference4Ideal.dot_S2x16384x512_S512x2048_S2x16384x2048_2_0_01_1_n_n none Ob Wb))) Wo))
    Cert.Reference4Ideal.Gen.shapeCasts_S2x16384x2048_S32768x2048

/-- The blocks the windows take at each grid point. -/
theorem idx : ∀ t : Fin cfg0.N, win0_0.index t = ![t.val, 0] ∧ win0_1.index t = ![t.val, 0]
    ∧ win0_2.index t = ![0, 0] ∧ win0_3.index t = ![0, 0] ∧ win0_4.index t = ![t.val, 2] ∧ win0_5.index t = ![t.val, 3]
    ∧ win0_6.index t = ![0, 0] ∧ win0_7.index t = ![t.val, 0] ∧ win0_8.index t = ![t.val, 0] :=
  (by decide +kernel : ∀ t : Fin grid0.N, _)

/-- A row of the first branch at a grid point. -/
theorem read0 (c : Dev nD) (t : Fin cfg0.N) (a : Fin 512) (k : Fin 1024) (i : Fin 2) (r : Fin 16384)
    (h : t.val * 512 + a.val = i.val * 16384 + r.val) :
    (show FVec Ideal S512x1024 .bf16 from iblk m c 0 t) (ix2 a k)
      = (m ((c : Thread nD τ).loc main_arg0) : FVec Ideal S2x16384x1024 .f32) (ix3 i r k) := by
  blk_point [iblk, V, idx t]

/-- A row of the second branch at a grid point. -/
theorem read1 (c : Dev nD) (t : Fin cfg0.N) (a : Fin 512) (k : Fin 512) (i : Fin 2) (r : Fin 16384)
    (h : t.val * 512 + a.val = i.val * 16384 + r.val) :
    (show FVec Ideal S512x512 .bf16 from iblk m c 1 t) (ix2 a k)
      = (m ((c : Thread nD τ).loc main_arg1) : FVec Ideal S2x16384x512 .f32) (ix3 i r k) := by
  blk_point [iblk, V, idx t]

/-- A row of the first gate at a grid point. -/
theorem read4 (c : Dev nD) (t : Fin cfg0.N) (a : Fin 512) (k : Fin 2048) (i : Fin 2) (r : Fin 16384)
    (h : t.val * 512 + a.val = i.val * 16384 + r.val) (l : Fin 8192) (hl : l.val = 4096 + k.val) :
    (show FVec Ideal S512x2048 .bf16 from iblk m c 4 t) (ix2 a k)
      = (m ((c : Thread nD τ).loc main_arg4) : FVec Ideal S2x16384x8192 .f32) (ix3 i r l) := by
  blk_point [iblk, V, idx t]

/-- A row of the second gate at a grid point. -/
theorem read5 (c : Dev nD) (t : Fin cfg0.N) (a : Fin 512) (k : Fin 2048) (i : Fin 2) (r : Fin 16384)
    (h : t.val * 512 + a.val = i.val * 16384 + r.val) (l : Fin 8192) (hl : l.val = 6144 + k.val) :
    (show FVec Ideal S512x2048 .bf16 from iblk m c 5 t) (ix2 a k)
      = (m ((c : Thread nD τ).loc main_arg4) : FVec Ideal S2x16384x8192 .f32) (ix3 i r l) := by
  blk_point [iblk, V, idx t]

/-- A row of the residual at a grid point. -/
theorem read7 (c : Dev nD) (t : Fin cfg0.N) (a : Fin 512) (k : Fin 2048) (i : Fin 2) (r : Fin 16384)
    (h : t.val * 512 + a.val = i.val * 16384 + r.val) :
    (show FVec Ideal S512x2048 .f32 from iblk m c 7 t) (ix2 a k)
      = (m ((c : Thread nD τ).loc main_arg6) : FVec Ideal S2x16384x2048 .f32) (ix3 i r k) := by
  blk_point [iblk, V, idx t]

/-- What the body stores is the reference at the row and column of the block. -/
theorem point (c : Dev nD) (t : Fin cfg0.N) (y : S512x2048.Idx) (z : S32768x2048.Idx)
    (e0 : (z 0).val = t.val * 512 + (y 0).val) (e1 : (z 1).val = (y 1).val) :
    k0_pay1 (k0_pay2 (iblk m c 7 t)) (k0_pay3 (iblk m c 0 t) (iblk m c 2 t) (iblk m c 1 t) (iblk m c 3 t) (iblk m c 4 t)
      (iblk m c 5 t)) (iblk m c 6 t) y
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) z := by
  pointwise [k0_pay1, k0_pay2, k0_pay3, REF, REFgate]
  rw [half]
  simp only [gate, Ideal.logistic]
  have hz : t.val * 512 + (y 0).val = (z 0).val / 16384 * 16384 + (z 0).val % 16384 := by omega
  have h1 : y 1 = z 1 := Fin.ext e1.symm
  have hy : y = ix2 (y 0) (y 1) := by funext a; fin_cases a <;> rfl
  reads_congr
  · rw [hy, ← h1]; exact read7 m c t _ _ _ _ hz
  · refine read4 m c t _ _ _ _ ?_ _ ?_
    · exact hz
    · dsimp only
  · exact read0 m c t _ _ _ _ hz
  · blk_ext! [iblk, V, idx t]
  · refine read5 m c t _ _ _ _ ?_ _ ?_
    · exact hz
    · dsimp only
  · exact read1 m c t _ _ _ _ hz
  · blk_ext! [iblk, V, idx t]
  · blk_ext! [iblk, V, idx t]

/-- The result array after the run. -/
theorem final (c : Dev nD) : (dats m 0 c).arrAt 8 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 8 _ (by decide +kernel) fun t hf y => ?_
  blk_simp
  rw [after0_8]
  frame_out
  exact point m c t y _ (by blk_simp [idx t]) (by blk_simp [idx t])

end Cert.Kernel4Ideal.Mix

end
-- ==== Proof.Ff1Value.lean ====
module
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import proofs.«01_k».proof.Proof.Ix

/-!
# The input projection of the feed-forward part: what its result array holds

A row block's first grid point norms the block's 1024 rows, in four tiles, into a scratch that the block's later points
read; each point multiplies the scratch by its 2048 columns, floors the product at zero and squares it.
-/

@[expose] public section

set_option maxRecDepth 16384

noncomputable section

open Idealize.ShloMosaic Idealize.ShloMosaic.TcCoe Idealize.SL.Sem
open Idealize.ShloMosaic.Pipeline (Dat)

namespace Cert.Kernel3Ideal.Ff1

open Cert.Kernel3Ideal Cert.Kernel3Ideal.Gen

variable (m : (ℓ : Loc nD τ sig) → Buf (Elt Ideal) ℓ)

/-- The reference's normed activations: a row over the root of its mean square, times the norm's weight. -/
abbrev REFnorm (X : FVec Ideal S2x16384x2048 .f32) (W : FVec Ideal S2048 .f32) : FVec Ideal S2x16384x2048 .f32 :=
  mulf (mulf X (broadcastInDim S2x16384x2048 ![0, 1, 2] Cert.Reference3Ideal.Gen.bcast_S2x16384x1_S2x16384x2048_0_1_2
    (Host.rsqrt (addf (Host.divf (broadcastInDim Cert.Reference3Ideal.S2x16384x1 ![0, 1] Cert.Reference3Ideal.Gen.bcast_S2x16384_S2x16384x1_0_1
      (Host.reduceAdd (mulf X X) (constant Cert.Reference3Ideal.S_ .f32 0x00000000#32) Cert.Reference3Ideal.Gen.reducesTo_S2x16384x2048_S2x16384_d2 Cert.Reference3Ideal.Gen.h_S_))
      (broadcastInDim Cert.Reference3Ideal.S2x16384x1 ![] Cert.Reference3Ideal.Gen.bcast_S_S2x16384x1 (constant Cert.Reference3Ideal.S_ .f32 0x45000000#32)))
      (broadcastInDim Cert.Reference3Ideal.S2x16384x1 ![] Cert.Reference3Ideal.Gen.bcast_S_S2x16384x1 (constant Cert.Reference3Ideal.S_ .f32 0x358637BD#32))))))
    (broadcastInDim S2x16384x2048 ![0, 1, 2] Cert.Reference3Ideal.Gen.bcast_S1x1x2048_S2x16384x2048_0_1_2
      (broadcastInDim Cert.Reference3Ideal.S1x1x2048 ![2] Cert.Reference3Ideal.Gen.bcast_S2048_S1x1x2048_2 W))

/-- The reference's product, floored at zero. -/
abbrev REFrelu (X : FVec Ideal S2x16384x2048 .f32) (W : FVec Ideal S2048 .f32) (U : FVec Ideal S2048x8192 .f32) :
    FVec Ideal Cert.Reference3Ideal.S2x16384x8192 .f32 :=
  maximumf (Host.dotGeneral Cert.Reference3Ideal.dot_S2x16384x2048_S2048x8192_S2x16384x8192_2_0_01_1_n_n none (REFnorm X W) U)
    (broadcastInDim Cert.Reference3Ideal.S2x16384x8192 ![] Cert.Reference3Ideal.Gen.bcast_S_S2x16384x8192 (constant Cert.Reference3Ideal.S_ .f32 0x00000000#32))

/-- The reference's result, over the three arguments. -/
abbrev REF (X : FVec Ideal S2x16384x2048 .f32) (W : FVec Ideal S2048 .f32) (U : FVec Ideal S2048x8192 .f32) :
    FVec Ideal S32768x8192 .bf16 :=
  truncf .bf16 (shapeCast _ (mulf (REFrelu X W U) (REFrelu X W U)) Cert.Reference3Ideal.Gen.shapeCasts_S2x16384x8192_S32768x8192)
    Cert.Reference3Ideal.Gen.bitsLt_bf16_f32

/-- The blocks the windows take at each grid point. -/
theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- Where a trip of the loop stores its tile. -/
theorem off : ∀ k : Fin k0_t1_loop.trips, k0_off1 k = ![k.val * 256, 0] := by decide +kernel

/-- An entry of the normed activations. -/
def entry (X : FVec Ideal S2x16384x2048 .f32) (W : FVec Ideal S2048 .f32) (i : Fin 2) (r : Fin 16384) (k : Fin 2048) : EReal :=
  X (ix3 i r k) * Ideal.rsqrt (Ideal.div (∑ l, X (ix3 i r l) * X (ix3 i r l)) (Ideal.ofBits .f32 0x45000000#32)
    + Ideal.ofBits .f32 0x358637BD#32) * W (ix1 k)

/-- A row of the activations at a grid point. -/
theorem read0 (c : Dev nD) (t : Fin cfg0.N) (a : Fin 1024) (k : Fin 2048) (i : Fin 2) (r : Fin 16384)
    (h : t.val / 4 * 1024 + a.val = i.val * 16384 + r.val) :
    (show FVec Ideal S1024x2048 .f32 from iblk m c 0 t) (ix2 a k)
      = (m ((c : Thread nD τ).loc main_arg0) : FVec Ideal S2x16384x2048 .f32) (ix3 i r k) := by
  blk_point [iblk, V, idx t]

/-- The norm's weight at a grid point. -/
theorem read1 (c : Dev nD) (t : Fin cfg0.N) (a : Fin 1) (k : Fin 2048) :
    (show FVec Ideal S1x2048 .f32 from iblk m c 1 t) (ix2 a k)
      = (m ((c : Thread nD τ).loc main_arg1) : FVec Ideal S2048 .f32) (ix1 k) := by
  blk_point [iblk, V, idx t]

/-- A column of the projection at a grid point. -/
theorem read2 (c : Dev nD) (t : Fin cfg0.N) (k : Fin 2048) (j : Fin 2048) (l : Fin 8192)
    (h : l.val = t.val % 4 * 2048 + j.val) :
    (show FVec Ideal S2048x2048 .bf16 from iblk m c 2 t) (ix2 k j)
      = (m ((c : Thread nD τ).loc main_arg2) : FVec Ideal S2048x8192 .f32) (ix2 k l) := by
  blk_point [iblk, V, idx t]

/-- What one trip stores at an index of its tile. -/
theorem norm_point (w : Vec Ideal S1x2048 .f32) (x : Vec Ideal S256x2048 .f32) (b : Fin 256) (k : Fin 2048)
    (X : FVec Ideal S2x16384x2048 .f32) (W : FVec Ideal S2048 .f32) (i : Fin 2) (r : Fin 16384)
    (hx : ∀ l : Fin 2048, (x : FVec Ideal S256x2048 .f32) (ix2 b l) = X (ix3 i r l))
    (hw : ∀ l : Fin 2048, (w : FVec Ideal S1x2048 .f32) (ix2 0 l) = W (ix1 l)) :
    k0_pay1 w x (ix2 b k) = entry X W i r k := by
  pointwise [k0_pay1, entry]
  simp only [hx, hw]

/-- Every piece that the loop's trips store is some trip's tile. -/
theorem pieces (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S1024x2048 .bf16) (harg5 : arg5.IsWhole) (arg6 : Memref sig .tc .vmem S1024x2048 .bf16) (harg6 : arg6.IsWhole) (h : k0_cond1 i = 1#1) (v12 : Vec Ideal S1x2048 .f32) (X : BufTy.Contents (Elt Ideal) arg2.view.ty) :
    ∀ n, n ≤ k0_t1_loop.trips → ∀ p ∈ pb_k0_t1 𝒱 c bd i arg2 harg2 arg3 harg3 arg4 harg4 arg5 harg5 arg6 harg6 h v12 X n,
      ∃ k : Fin k0_t1_loop.trips, p = ⟨Rect.unit (s := S1024x2048) (k0_off1 k) S256x2048.size (k0_off1_inb i k h),
        k0_pay1 v12 (View.readAt (Elt Ideal) arg2.view (Rect.unit (s := S1024x2048) (k0_off1 k) S256x2048.size (k0_off1_inb i k h)).toLoadRect X)⟩ := by
  intro n
  induction n with
  | zero => intro _ p hp; exact absurd hp (by rw [pb_k0_t1.eq_1]; exact List.not_mem_nil)
  | succ n ih =>
    intro hn p hp
    have e := pb_k0_t1_succ 𝒱 c bd i arg2 harg2 arg3 harg3 arg4 harg4 arg5 harg5 arg6 harg6 h v12 X ⟨n, hn⟩
    dsimp only at e
    rw [e] at hp
    rcases List.mem_append.mp hp with hp | hp
    · unfold tripL_k0_t1 trip_k0_t1 at hp
      exact ⟨_, List.mem_singleton.mp hp⟩
    · exact ih (by omega) p hp

/-- The point that resets the scratch leaves the normed rows in it. -/
theorem scratchA (c : Dev nD) (t : Fin cfg0.N) (ht : t.val % 4 = 0) (a : Fin 1024) (k : Fin 2048) (i : Fin 2) (r : Fin 16384)
    (h : t.val / 4 * 1024 + a.val = i.val * 16384 + r.val) :
    (show FVec Ideal S1024x2048 .bf16 from (outsAt0 m c t.val t.isLt).2) (ix2 a k)
      = entry (m ((c : Thread nD τ).loc main_arg0)) (m ((c : Thread nD τ).loc main_arg1)) i r k := by
  have hcov := scover0_A_0 c (grid0.coords t) (ms0_0 t) (hs0_0 t) (ms0_1 t) (hs0_1 t) (ms0_2 t) (hs0_2 t) (ms0_3 t) (hs0_3 t)
    scM0_0 (Memref.isWhole_whole _) ((hcond0_0 t).mpr ht) (iblk m c 0 t) (iblk m c 1 t) (iblk m c 2 t) (ix2 a k)
  unfold kernelRun0_A at hcov
  dsimp only at hcov
  rw [outsAt0_A m c t ht]
  dsimp only
  frame_out
  refine View.canon_eq_of_allAt _ _ _ ?_ ?_
  · rw [View.readAt_eq_ld, Memref.IsWhole.read_unread, View.ld_unit_zero] at hcov
    · exact hcov
    · funext a; fin_cases a <;> rfl
  intro p hp x hx
  obtain ⟨q, rfl⟩ := pieces _ _ _ _ _ _ _ _ _ _ _ _ _ _ _ _ _ _ le_rfl p hp
  have hq := off q
  have e0 := congrArg (fun z : S1024x2048.Idx => (z 0).val) hx
  have e1 := congrArg (fun z : S1024x2048.Idx => (z 1).val) hx
  simp [Rect.emb_apply, hq] at e0 e1
  rw [View.readAt_eq_ld, Memref.IsWhole.read_unread]
  have hq4 : q.val < 4 := lt_of_lt_of_eq q.isLt (by decide)
  have hb : (x 0).val < 256 := (x 0).isLt
  have hxe : x = (ix2 (⟨(x 0).val, hb⟩ : Fin 256) k : S256x2048.Idx) := by
    funext a; apply Fin.ext; fin_cases a
    · rfl
    · exact e1
  rw [hxe]
  refine norm_point _ _ _ _ _ _ i r (fun l => ?_) (fun l => read1 m c t 0 l)
  rw [← read0 m c t a l i r h]
  refine congrArg (iblk m c 0 t) ?_
  funext b; apply Fin.ext; fin_cases b
  · simp [Rect.emb_apply, hq]; omega
  · simp [Rect.emb_apply, hq]

/-- Every point leaves the normed rows of its row block in the scratch. -/
theorem scratch (c : Dev nD) (n : ℕ) : ∀ (hn : n < cfg0.N) (a : Fin 1024) (k : Fin 2048) (i : Fin 2) (r : Fin 16384)
    (h : n / 4 * 1024 + a.val = i.val * 16384 + r.val),
    (outsAt0 m c n hn).2 (ix2 a k)
      = entry (m ((c : Thread nD τ).loc main_arg0)) (m ((c : Thread nD τ).loc main_arg1)) i r k := by
  induction n with
  | zero => intro hn a k i r h; exact scratchA m c ⟨0, hn⟩ (Nat.zero_mod _) a k i r h
  | succ n ih =>
    intro hn a k i r h
    by_cases h0 : (n + 1) % 4 = 0
    · exact scratchA m c ⟨n + 1, hn⟩ h0 a k i r h
    · have e := congrArg Prod.snd (outsAt0_B m c ⟨n + 1, hn⟩ h0)
      dsimp only at e
      rw [e]
      exact ih (by omega) a k i r (by omega)

/-- Every point leaves in its output block the squared floored product of the scratch and its columns. -/
theorem out (c : Dev nD) (t : Fin cfg0.N) :
    (outsAt0 m c t.val t.isLt).1 = k0_pay2 (outsAt0 m c t.val t.isLt).2 (iblk m c 2 t) := by
  by_cases h0 : t.val % 4 = 0
  · have hcov := scover0_A_0 c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t)
    unfold kernelRun0_A at hcov
    dsimp only at hcov
    rw [View.readAt_eq_ld, Memref.IsWhole.read_unread, View.ld_unit_zero] at hcov
    · rw [outsAt0_A m c t h0]
      dsimp only
      frame_out
      rw [View.readCov_eq_canon_ld _ _ _ hcov, View.ld_unit_zero]
      funext a; fin_cases a <;> rfl
    · funext a; fin_cases a <;> rfl
  · rw [outsAt0_B m c t h0]
    dsimp only
    frame_out
    simp only [read_unread_whole]
    rfl

/-- What a point leaves in its output block is the reference at the row and column of the block. -/
theorem point (c : Dev nD) (t : Fin cfg0.N) (y : S1024x2048.Idx) (z : S32768x8192.Idx)
    (e0 : (z 0).val = t.val / 4 * 1024 + (y 0).val) (e1 : (z 1).val = t.val % 4 * 2048 + (y 1).val) :
    k0_pay2 (outsAt0 m c t.val t.isLt).2 (iblk m c 2 t) y
      = REF (m ((c : Thread nD τ).loc main_arg0)) (m ((c : Thread nD τ).loc main_arg1)) (m ((c : Thread nD τ).loc main_arg2)) z := by
  pointwise [k0_pay2, REF, REFrelu, REFnorm]
  have hz : t.val / 4 * 1024 + (y 0).val = (z 0).val / 16384 * 16384 + (z 0).val % 16384 := by omega
  have hz0 : (z 0).val < 32768 := (z 0).isLt
  have e : ∀ k, (outsAt0 m c t.val t.isLt).2 (ix2 (y 0) k) = entry (m ((c : Thread nD τ).loc main_arg0)) (m ((c : Thread nD τ).loc main_arg1))
      ⟨(z 0).val / 16384, by omega⟩ ⟨(z 0).val % 16384, by omega⟩ k := fun k => by
    refine scratch m c t.val t.isLt (y 0) k _ _ ?_
    exact hz
  have e2 : ∀ k, (iblk m c 2 t) (ix2 k (y 1)) = (m ((c : Thread nD τ).loc main_arg2) : FVec Ideal S2048x8192 .f32) (ix2 k (z 1)) := fun k => by
    refine read2 m c t k (y 1) (z 1) ?_
    exact e1
  simp only [e, e2]
  rfl

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out m c t]
  exact point m c t y _ (by blk_simp [idx t]) (by blk_simp [idx t])

end Cert.Kernel3Ideal.Ff1
end
-- ==== Proof.Ff2Value.lean ====
module
public import proofs.«01_k».proof.Proof.Gen.Kernel2Ideal.Value
public import proofs.«01_k».proof.Proof.Gen.Reference2Ideal.Run
public import Idealize.ShloMosaic.Lib.Pipeline.ValueKit
public import proofs.«01_k».proof.Proof.Ix

/-!
# The second feed-forward product: what its result array holds

Each run of eight grid points owns a block of 1024 rows. The first point copies the residual rows in and adds the
product over the first 1024 hidden columns; every later point adds the product over the next 1024. After the eighth
point the block holds the residual plus the product over all 8192 hidden columns, which is what the reference says.
-/

@[expose] public section

set_option maxRecDepth 16384

noncomputable section

open Idealize.ShloMosaic Idealize.ShloMosaic.TcCoe Idealize.SL.Sem
open Idealize.ShloMosaic.Pipeline (Dat)

namespace Cert.Kernel2Ideal.Ff2

open Cert.Kernel2Ideal Cert.Kernel2Ideal.Gen

variable (m : (ℓ : Loc nD τ sig) → Buf (Elt Ideal) ℓ)

/-- The reference's result, over the three arguments. -/
abbrev REF (U : FVec Ideal S2x16384x8192 .f32) (W : FVec Ideal S8192x2048 .f32)
    (X : FVec Ideal S2x16384x2048 .f32) : FVec Ideal S32768x2048 .f32 :=
  shapeCast _ (addf X (Host.dotGeneral Cert.Reference2Ideal.dot_S2x16384x8192_S8192x2048_S2x16384x2048_2_0_01_1_n_n none U W))
    Cert.Reference2Ideal.Gen.shapeCasts_S2x16384x2048_S32768x2048

/-- The blocks the windows take at each grid point. -/
theorem idx : ∀ t : Fin cfg0.N, win0_0.index t = ![t.val / 8, t.val % 8] ∧ win0_1.index t = ![t.val % 8, 0]
    ∧ win0_2.index t = ![t.val / 8, 0] ∧ win0_3.index t = ![t.val / 8, 0] :=
  (by decide +kernel : ∀ t : Fin grid0.N, _)

/-- The copied residual block. -/
theorem pay1_at (x : FVec Ideal S1024x2048 .f32) (j : S1024x2048.Idx) : k0_pay1 (F := Ideal) x j = x j := by
  pointwise [k0_pay1]

/-- One point's addition: the block so far plus the product over 1024 hidden columns. -/
theorem pay2_at (acc : FVec Ideal S1024x2048 .f32) (u : FVec Ideal S1024x1024 .bf16) (w : FVec Ideal S1024x2048 .bf16)
    (j : S1024x2048.Idx) :
    k0_pay2 (F := Ideal) acc u w j = acc j + ∑ k : Fin 1024, u (ix2 (j 0) k) * w (ix2 k (j 1)) := by
  pointwise [k0_pay2]

/-- The product one grid point adds at an index of its block (zero past the grid). -/
def term (c : Dev nD) (n : ℕ) (j : S1024x2048.Idx) : EReal :=
  if h : n < cfg0.N then ∑ k : Fin 1024,
    (show FVec Ideal S1024x1024 .bf16 from iblk m c 0 ⟨n, h⟩) (ix2 (j 0) k)
      * (show FVec Ideal S1024x2048 .bf16 from iblk m c 1 ⟨n, h⟩) (ix2 k (j 1))
  else 0

/-- What the block holds after the last point of its run. -/
theorem run_sum (c : Dev nD) (t : Fin cfg0.N) (ht : t.val % 8 = 7) (j : S1024x2048.Idx) :
    outsAt0 m c t.val t.isLt j
      = (show FVec Ideal S1024x2048 .f32 from iblk m c 2 ⟨8 * (t.val / 8), by have := t.isLt; omega⟩) j
        + ∑ s : Fin 8, ∑ k : Fin 1024,
          (show FVec Ideal S1024x1024 .bf16 from iblk m c 0 ⟨8 * (t.val / 8) + s.val, Pipeline.run_point_lt_of_flush t ht s⟩) (ix2 (j 0) k)
          * (show FVec Ideal S1024x2048 .bf16 from iblk m c 1 ⟨8 * (t.val / 8) + s.val, Pipeline.run_point_lt_of_flush t ht s⟩) (ix2 k (j 1)) := by
  have hb : 8 * (t.val / 8) < cfg0.N := by have := t.isLt; omega
  rw [Cert.Kernel2Ideal.Value.outsAt_3_eq m c t]
  have h := Pipeline.accAt_add_apply (β := EReal) (Value.reset3 m c) (Value.step3 m c)
    (fun j => (show FVec Ideal S1024x2048 .f32 from iblk m c 2 ⟨8 * (t.val / 8), hb⟩) j) (term m c) (8 * (t.val / 8)) 7
    (fun h i => by
      show k0_pay2 _ _ _ i = _
      refine (pay2_at _ _ _ i).trans ?_
      rw [pay1_at, term, dif_pos h])
    (fun n h acc i _ _ => by
      show k0_pay2 _ _ _ i = _
      refine (pay2_at _ _ _ i).trans ?_
      rw [term, dif_pos h])
    (t.val % 8) (by omega) (by have h1 := t.isLt; have h2 := Nat.div_add_mod t.val 8; omega) j
  refine h.trans ?_
  rw [ht, Finset.sum_range]
  congr 1
  refine Finset.sum_congr rfl fun s _ => ?_
  rw [term, dif_pos (Pipeline.run_point_lt_of_flush t ht s)]

/-- A hidden entry read at a grid point. -/
theorem read0 (c : Dev nD) (t : Fin cfg0.N) (a k : Fin 1024) :
    (show FVec Ideal S1024x1024 .bf16 from iblk m c 0 t) (ix2 a k)
      = (m ((c : Thread nD τ).loc main_arg0) : FVec Ideal S2x16384x8192 .f32)
        (ix3 ⟨(t.val / 8 * 1024 + a.val) / 16384, by have := lt_of_lt_of_eq t.isLt N_0; omega⟩
          ⟨(t.val / 8 * 1024 + a.val) % 16384, by omega⟩ ⟨t.val % 8 * 1024 + k.val, by omega⟩) := by
  blk_point [iblk, V, idx t]

/-- A weight read at a grid point. -/
theorem read1 (c : Dev nD) (t : Fin cfg0.N) (k : Fin 1024) (b : Fin 2048) :
    (show FVec Ideal S1024x2048 .bf16 from iblk m c 1 t) (ix2 k b)
      = (m ((c : Thread nD τ).loc main_arg1) : FVec Ideal S8192x2048 .f32)
        (ix2 ⟨t.val % 8 * 1024 + k.val, by omega⟩ b) := by
  blk_point [iblk, V, idx t]

/-- A residual entry read at a grid point. -/
theorem read2 (c : Dev nD) (t : Fin cfg0.N) (y : S1024x2048.Idx) :
    (show FVec Ideal S1024x2048 .f32 from iblk m c 2 t) y
      = (m ((c : Thread nD τ).loc main_arg2) : FVec Ideal S2x16384x2048 .f32)
        (ix3 ⟨(t.val / 8 * 1024 + (y 0).val) / 16384, by have := lt_of_lt_of_eq t.isLt N_0; have : (y 0).val < 1024 := (y 0).isLt; omega⟩
          ⟨(t.val / 8 * 1024 + (y 0).val) % 16384, by omega⟩ (y 1)) := by
  blk_point [iblk, V, idx t]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  blk_simp
  rw [after0_3]
  refine (run_sum m c t ht y).trans ?_
  pointwise [REF]
  have e0 : (((View.whole main_v4).slice (win0_3.rect t)).emb y 0 : ℕ) = t.val / 8 * 1024 + (y 0).val := by blk_simp [idx t]
  have e1 : (((View.whole main_v4).slice (win0_3.rect t)).emb y 1 : ℕ) = (y 1).val := by blk_simp [idx t]
  refine congrArg₂ (· + ·) ?_ ?_
  · refine (read2 m c _ y).trans (congrArg (m _) ?_)
    exact ix3_of_val (by dsimp only; rw [e0]; omega) (by dsimp only; rw [e0]; omega) e1.symm
  · refine Fin.sum_mul_add_congr fun s k hl => ?_
    have hq : (8 * (t.val / 8) + s.val) / 8 = t.val / 8 := by omega
    have hr : (8 * (t.val / 8) + s.val) % 8 = s.val := by omega
    refine congrArg₂ (· * ·) ((read0 m c _ _ k).trans (congrArg (m _) ?_)) ((read1 m c _ k _).trans (congrArg (m _) ?_))
    · exact ix3_of_val (by dsimp only; rw [e0, hq]) (by dsimp only; rw [e0, hq]) (by dsimp only; rw [hr])
    · exact ix2_of_val (by dsimp only; rw [hr]) e1.symm

end Cert.Kernel2Ideal.Ff2

end
-- ==== Proof.SwaProjCol.lean ====
module
public import proofs.«01_k».proof.Proof.Gen.Kernel6Ideal.Launch
public import Idealize.ShloMosaic.Lib.Pipeline.ValueKit
public import proofs.«01_k».proof.Proof.Ix

/-!
# The attention's input projection: the weight's columns and a head's entries

The kernel's weight is the input weight's attention columns, taken 128 by 128 so that a head's query, key and value
columns stand side by side. A head's query and key entries are normed and turned by the rotary embedding.
-/

@[expose] public section

set_option maxRecDepth 16384

noncomputable section

open Idealize.ShloMosaic Idealize.ShloMosaic.TcCoe Idealize.SL.Sem
open Idealize.ShloMosaic.Pipeline (Dat)

namespace Cert.Kernel6Ideal.SwaProj

open Cert.Kernel6Ideal Cert.Kernel6Ideal.Gen

/-- The input weight's column that the kernel's weight has at `l`. -/
def col (l : Fin 4608) : Fin 12816 :=
  ⟨4112 + l.val / 128 % 3 * 1536 + (l.val / 384 % 3 * 4 + l.val / 1152) * 128 + l.val % 128, by omega⟩

/-- The first 16 groups of 128 columns of the kernel's weight, -/
abbrev groups1 (U : FVec Ideal S2048x12816 .f32) : List ((s : Shape) × (s.Idx → EReal)) :=
  [⟨S2048x128, extractStridedSlice S2048x128 ![0, 4112] U slices_S2048x12816_S2048x128_0_4112⟩,
   ⟨S2048x128, extractStridedSlice S2048x128 ![0, 5648] U slices_S2048x12816_S2048x128_0_5648⟩,
   ⟨S2048x128, extractStridedSlice S2048x128 ![0, 7184] U slices_S2048x12816_S2048x128_0_7184⟩,
   ⟨S2048x128, extractStridedSlice S2048x128 ![0, 4624] U slices_S2048x12816_S2048x128_0_4624⟩,
   ⟨S2048x128, extractStridedSlice S2048x128 ![0, 6160] U slices_S2048x12816_S2048x128_0_6160⟩,
   ⟨S2048x128, extractStridedSlice S2048x128 ![0, 7696] U slices_S2048x12816_S2048x128_0_7696⟩,
   ⟨S2048x128, extractStridedSlice S2048x128 ![0, 5136] U slices_S2048x12816_S2048x128_0_5136⟩,
   ⟨S2048x128, extractStridedSlice S2048x128 ![0, 6672] U slices_S2048x12816_S2048x128_0_6672⟩,
   ⟨S2048x128, extractStridedSlice S2048x128 ![0, 8208] U slices_S2048x12816_S2048x128_0_8208⟩,
   ⟨S2048x128, extractStridedSlice S2048x128 ![0, 4240] U slices_S2048x12816_S2048x128_0_4240⟩,
   ⟨S2048x128, extractStridedSlice S2048x128 ![0, 5776] U slices_S2048x12816_S2048x128_0_5776⟩,
   ⟨S2048x128, extractStridedSlice S2048x128 ![0, 7312] U slices_S2048x12816_S2048x128_0_7312⟩,
   ⟨S2048x128, extractStridedSlice S2048x128 ![0, 4752] U slices_S2048x12816_S2048x128_0_4752⟩,
   ⟨S2048x128, extractStridedSlice S2048x128 ![0, 6288] U slices_S2048x12816_S2048x128_0_6288⟩,
   ⟨S2048x128, extractStridedSlice S2048x128 ![0, 7824] U slices_S2048x12816_S2048x128_0_7824⟩,
   ⟨S2048x128, extractStridedSlice S2048x128 ![0, 5264] U slices_S2048x12816_S2048x128_0_5264⟩]

/-- and the next 16. -/
abbrev groups2 (U : FVec Ideal S2048x12816 .f32) : List ((s : Shape) × (s.Idx → EReal)) :=
  [⟨S2048x128, extractStridedSlice S2048x128 ![0, 6800] U slices_S2048x12816_S2048x128_0_6800⟩,
   ⟨S2048x128, extractStridedSlice S2048x128 ![0, 8336] U slices_S2048x12816_S2048x128_0_8336⟩,
   ⟨S2048x128, extractStridedSlice S2048x128 ![0, 4368] U slices_S2048x12816_S2048x128_0_4368⟩,
   ⟨S2048x128, extractStridedSlice S2048x128 ![0, 5904] U slices_S2048x12816_S2048x128_0_5904⟩,
   ⟨S2048x128, extractStridedSlice S2048x128 ![0, 7440] U slices_S2048x12816_S2048x128_0_7440⟩,
   ⟨S2048x128, extractStridedSlice S2048x128 ![0, 4880] U slices_S2048x12816_S2048x128_0_4880⟩,
   ⟨S2048x128, extractStridedSlice S2048x128 ![0, 6416] U slices_S2048x12816_S2048x128_0_6416⟩,
   ⟨S2048x128, extractStridedSlice S2048x128 ![0, 7952] U slices_S2048x12816_S2048x128_0_7952⟩,
   ⟨S2048x128, extractStridedSlice S2048x128 ![0, 5392] U slices_S2048x12816_S2048x128_0_5392⟩,
   ⟨S2048x128, extractStridedSlice S2048x128 ![0, 6928] U slices_S2048x12816_S2048x128_0_6928⟩,
   ⟨S2048x128, extractStridedSlice S2048x128 ![0, 8464] U slices_S2048x12816_S2048x128_0_8464⟩,
   ⟨S2048x128, extractStridedSlice S2048x128 ![0, 4496] U slices_S2048x12816_S2048x128_0_4496⟩,
   ⟨S2048x128, extractStridedSlice S2048x128 ![0, 6032] U slices_S2048x12816_S2048x128_0_6032⟩,
   ⟨S2048x128, extractStridedSlice S2048x128 ![0, 7568] U slices_S2048x12816_S2048x128_0_7568⟩,
   ⟨S2048x128, extractStridedSlice S2048x128 ![0, 5008] U slices_S2048x12816_S2048x128_0_5008⟩,
   ⟨S2048x128, extractStridedSlice S2048x128 ![0, 6544] U slices_S2048x12816_S2048x128_0_6544⟩]

/-- The kernel's weight: its first 2048 columns, -/
abbrev wide1 (U : FVec Ideal S2048x12816 .f32) : FVec Ideal S2048x2048 .f32 :=
  concatenate S2048x2048 1 (groups1 U) concatenates_S2048x128_S2048x128_S2048x128_S2048x128_S2048x128_S2048x128_S2048x128_S2048x128_S2048x128_S2048x128_S2048x128_S2048x128_S2048x128_S2048x128_S2048x128_S2048x128_S2048x2048_d1

/-- the next 2048, -/
abbrev wide2 (U : FVec Ideal S2048x12816 .f32) : FVec Ideal S2048x2048 .f32 :=
  concatenate S2048x2048 1 (groups2 U) concatenates_S2048x128_S2048x128_S2048x128_S2048x128_S2048x128_S2048x128_S2048x128_S2048x128_S2048x128_S2048x128_S2048x128_S2048x128_S2048x128_S2048x128_S2048x128_S2048x128_S2048x2048_d1

/-- the last 512, -/
abbrev wide3 (U : FVec Ideal S2048x12816 .f32) : FVec Ideal S2048x512 .f32 :=
  concatenate S2048x512 1
    [⟨S2048x128, extractStridedSlice S2048x128 ![0, 8080] U slices_S2048x12816_S2048x128_0_8080⟩,
     ⟨S2048x128, extractStridedSlice S2048x128 ![0, 5520] U slices_S2048x12816_S2048x128_0_5520⟩,
     ⟨S2048x128, extractStridedSlice S2048x128 ![0, 7056] U slices_S2048x12816_S2048x128_0_7056⟩,
     ⟨S2048x128, extractStridedSlice S2048x128 ![0, 8592] U slices_S2048x12816_S2048x128_0_8592⟩]
    concatenates_S2048x128_S2048x128_S2048x128_S2048x128_S2048x512_d1

/-- and all of them, side by side. -/
abbrev wide (U : FVec Ideal S2048x12816 .f32) : FVec Ideal S2048x4608 .f32 :=
  concatenate S2048x4608 1 [⟨S2048x2048, wide1 U⟩, ⟨S2048x2048, wide2 U⟩, ⟨S2048x512, wide3 U⟩]
    concatenates_S2048x2048_S2048x2048_S2048x512_S2048x4608_d1

/-- A position along 128-column pieces is in the first or among the others, 128 columns on. -/
theorem piece_at (k : Fin 2048) (l : Fin 2048) (x : FVec Ideal S2048x128 .f32) (q : (s : Shape) × (s.Idx → EReal))
    (xs : List ((s : Shape) × (s.Idx → EReal)))
    (hs : ∀ s' ∈ (⟨S2048x128, x⟩ :: q :: xs : List ((s : Shape) × (s.Idx → EReal))).map (·.1), s'.FitsOff S2048x2048 1) (c : Nat)
    (hc : c < (axisSizes S2048x2048 1 (⟨S2048x128, x⟩ :: q :: xs)).sum) :
    concatenateAt S2048x2048 1 (ix2 k l) (⟨S2048x128, x⟩ :: q :: xs) hs c hc
      = if h : c < 128 then x (ix2 k ⟨c, h⟩)
        else concatenateAt S2048x2048 1 (ix2 k l) (q :: xs) (fun s' h => hs s' (List.mem_cons_of_mem _ h)) (c - 128)
          (by rw [axisSizes_cons S2048x2048 1 ⟨S2048x128, x⟩ (q :: xs) (hs S2048x128 List.mem_cons_self), List.sum_cons] at hc
              exact Nat.sub_lt_left_of_lt_add (Nat.le_of_not_lt h) hc) := by
  rw [concatenateAt_cons]
  by_cases h : c < 128
  · rw [dif_pos h]
    refine (dif_pos h).trans (congrArg x ?_)
    funext b; fin_cases b <;> rfl
  · rw [dif_neg h]
    exact dif_neg h

theorem groups1_at (U : FVec Ideal S2048x12816 .f32) (k : Fin 2048) (l : Fin 2048) (n : Nat) (hn : l.val = n)
    (hs : ∀ s' ∈ (groups1 U).map (·.1), s'.FitsOff S2048x2048 1) (hc : n < (axisSizes S2048x2048 1 (groups1 U)).sum) :
    concatenateAt S2048x2048 1 (ix2 k l) (groups1 U) hs n hc = U (ix2 k (col ⟨l.val, by omega⟩)) := by
  unfold groups1
  iterate 15
    rw [piece_at k l]
    split
    · pointwise
      unfold col
      exact congrArg U (ix2_of_val rfl (by dsimp only; omega))
  rw [concatenateAt_singleton]
  pointwise
  unfold col
  exact congrArg U (ix2_of_val rfl (by dsimp only; omega))

theorem wide1_at (U : FVec Ideal S2048x12816 .f32) (k : Fin 2048) (l : Fin 2048) :
    wide1 U (ix2 k l) = U (ix2 k (col ⟨l.val, by omega⟩)) :=
  (concatenate_apply _ _ _ _ _).trans (groups1_at U k l _ rfl _ _)

theorem groups2_at (U : FVec Ideal S2048x12816 .f32) (k : Fin 2048) (l : Fin 2048) (n : Nat) (hn : l.val = n)
    (hs : ∀ s' ∈ (groups2 U).map (·.1), s'.FitsOff S2048x2048 1) (hc : n < (axisSizes S2048x2048 1 (groups2 U)).sum) :
    concatenateAt S2048x2048 1 (ix2 k l) (groups2 U) hs n hc = U (ix2 k (col ⟨2048 + l.val, by omega⟩)) := by
  unfold groups2
  iterate 15
    rw [piece_at k l]
    split
    · pointwise
      unfold col
      exact congrArg U (ix2_of_val rfl (by dsimp only; omega))
  rw [concatenateAt_singleton]
  pointwise
  unfold col
  exact congrArg U (ix2_of_val rfl (by dsimp only; omega))

theorem wide2_at (U : FVec Ideal S2048x12816 .f32) (k : Fin 2048) (l : Fin 2048) :
    wide2 U (ix2 k l) = U (ix2 k (col ⟨2048 + l.val, by omega⟩)) :=
  (concatenate_apply _ _ _ _ _).trans (groups2_at U k l _ rfl _ _)

theorem wide3_at (U : FVec Ideal S2048x12816 .f32) (k : Fin 2048) (l : Fin 512) :
    wide3 U (ix2 k l) = U (ix2 k (col ⟨4096 + l.val, by omega⟩)) := by
  unfold wide3
  pointwise
  unfold col
  split_ifs <;> exact congrArg U (ix2_of_val rfl (by dsimp only; omega))

/-- The kernel's weight at a row and a column. -/
theorem wide_at (U : FVec Ideal S2048x12816 .f32) (k : Fin 2048) (l : Fin 4608) : wide U (ix2 k l) = U (ix2 k (col l)) := by
  have e1 := wide1_at U k
  have e2 := wide2_at U k
  have e3 := wide3_at U k
  unfold wide
  generalize wide1 U = A at e1
  generalize wide2 U = B at e2
  generalize wide3 U = C at e3
  pointwise
  split_ifs
  all_goals simp only [e1, e2, e3]
  all_goals exact congrArg U (ix2_of_val rfl (congrArg (fun n => (col n).val) (Fin.ext (by dsimp only; omega))))

/-- A head's entry over the root of the head's mean square, times the norm's weight. -/
def normed (y w : Fin 128 → EReal) (d : Fin 128) : EReal :=
  y d * Ideal.rsqrt (Ideal.div (∑ e, y e * y e) (Ideal.ofBits .f32 0x43000000#32) + Ideal.ofBits .f32 0x358637BD#32) * w d

/-- The entry half a head away. -/
def across (d : Fin 128) : Fin 128 := ⟨(d.val + 64) % 128, Nat.mod_lt _ (by decide)⟩

/-- The angle of an entry: the halves of a head share theirs. -/
def angle (d : Fin 128) : Fin 64 := ⟨d.val % 64, Nat.mod_lt _ (by decide)⟩

/-- A normed head turned: each entry times its cosine, plus the entry half a head away times the sine the table has. -/
def turned (y w c s : Fin 128 → EReal) (d : Fin 128) : EReal := normed y w d * c d + normed y w (across d) * s d

/-- The sine's table: the sines of the first half are negated. -/
def signed (s : Fin 64 → EReal) (d : Fin 128) : EReal := if d.val < 64 then -s (angle d) else s (angle d)

/-- What a head's queries are multiplied by. -/
def scale : EReal := Ideal.ofBits .f32 0x3DB504F3#32

/-- A head as the reference turns it: the second half goes to the first, negated, and the first to the second. -/
def plain (y w : Fin 128 → EReal) (c s : Fin 64 → EReal) (d : Fin 128) : EReal :=
  normed y w d * c (angle d) + (if d.val < 64 then -normed y w (across d) else normed y w (across d)) * s (angle d)

/-- The two ways of turning a head agree: the sign may stand at the sine. -/
theorem turned_eq (y w : Fin 128 → EReal) (c s : Fin 64 → EReal) (d : Fin 128) :
    turned y w (fun e => c (angle e)) (signed s) d = plain y w c s d := by
  unfold turned plain signed
  split
  · rw [mul_neg, neg_mul]
  · rfl

theorem scale_real : ∃ x : ℝ, 0 ≤ x ∧ scale = (x : EReal) := by
  have e : scale = ((11863283 * (2 : ℝ) ^ (-27 : Int) : ℝ) : EReal) := by
    simp [scale, Ideal.ofBits, Ideal.ieee, -EReal.coe_mul]
  exact ⟨_, by positivity, e⟩

theorem scale_nonneg : 0 ≤ scale := by
  obtain ⟨x, hx, e⟩ := scale_real
  rw [e]
  exact EReal.coe_nonneg.mpr hx

theorem scale_ne_top : scale ≠ ⊤ := by
  obtain ⟨x, hx, e⟩ := scale_real
  rw [e]
  exact EReal.coe_ne_top x

/-- The scale may stand at the norm's weight. -/
theorem turned_scale (y w c s : Fin 128 → EReal) (d : Fin 128) :
    turned y (fun e => w e * scale) c s d = turned y w c s d * scale := by
  unfold turned normed
  rw [EReal.right_distrib_of_nonneg_of_ne_top scale_nonneg scale_ne_top]
  simp only [← mul_assoc, mul_right_comm _ scale]

end Cert.Kernel6Ideal.SwaProj
end
-- ==== Proof.SwaProjBlocks.lean ====
module
public import proofs.«01_k».proof.Proof.SwaProjCol
public import proofs.«01_k».proof.Proof.Gen.Kernel6Ideal.Value
public import Idealize.ShloMosaic.Lib.Pipeline.ReadBack

/-!
# The attention's input projection: what its blocks read
-/

@[expose] public section

set_option maxRecDepth 16384

noncomputable section

open Idealize.ShloMosaic Idealize.ShloMosaic.TcCoe Idealize.SL.Sem
open Idealize.ShloMosaic.Pipeline (Dat)

namespace Cert.Kernel6Ideal.SwaProj

open Cert.Kernel6Ideal Cert.Kernel6Ideal.Gen

variable (m : (ℓ : Loc nD τ sig) → Buf (Elt Ideal) ℓ)

/-- The blocks the windows take at each grid point. -/
theorem idx : ∀ t : Fin cfg0.N, win0_0.index t = ![min t.val 63 / 2, 0] ∧ win0_1.index t = ![0, min t.val 63 % 2]
    ∧ win0_2.index t = ![(t.val - 1) / 2, 0] ∧ win0_3.index t = ![(t.val - 1) / 2, 0] ∧ win0_4.index t = ![0, 0]
    ∧ win0_5.index t = ![0, 0] ∧ win0_6.index t = ![(t.val - 1) / 2, (t.val - 1) % 2] :=
  (by decide +kernel : ∀ t : Fin grid0.N, _)

/-- The arrays the host prepares for the kernel: the rows, -/
theorem V47 (c : Dev nD) : V m c main_v47
    = truncf .bf16 (shapeCast S32768x2048 (m ((c : Thread nD τ).loc main_arg0) : FVec Ideal S2x16384x2048 .f32) shapeCasts_S2x16384x2048_S32768x2048 : FVec Ideal S32768x2048 .f32) bitsLt_bf16_f32 := by
  unfold V
  simp only [hostOps0, StableHlo.TRef.binary, StableHlo.TRef.unary, StableHlo.TRef.nary, StableHlo.TRef.toBuf, StableHlo.TRef.ofBuf, cast_eq]
  after_results <;> rfl

/-- the weight, -/
theorem V40 (c : Dev nD) : V m c main_v40
    = truncf .bf16 (wide (m ((c : Thread nD τ).loc main_arg1) : FVec Ideal S2048x12816 .f32)) bitsLt_bf16_f32 := by
  unfold V
  simp only [hostOps0, StableHlo.TRef.binary, StableHlo.TRef.unary, StableHlo.TRef.nary, StableHlo.TRef.toBuf, StableHlo.TRef.ofBuf, cast_eq]
  after_results <;> rfl

/-- the cosines' table, -/
theorem V42 (c : Dev nD) : V m c main_v42
    = shapeCast S32768x128 (concatenate S2x16384x128 2 [⟨S2x16384x64, (m ((c : Thread nD τ).loc main_arg2) : FVec Ideal S2x16384x64 .f32)⟩, ⟨S2x16384x64, (m ((c : Thread nD τ).loc main_arg2) : FVec Ideal S2x16384x64 .f32)⟩] concatenates_S2x16384x64_S2x16384x64_S2x16384x128_d2) shapeCasts_S2x16384x128_S32768x128 := by
  unfold V
  simp only [hostOps0, StableHlo.TRef.binary, StableHlo.TRef.unary, StableHlo.TRef.nary, StableHlo.TRef.toBuf, StableHlo.TRef.ofBuf, cast_eq]
  after_results <;> rfl

/-- the sines' table, -/
theorem V45 (c : Dev nD) : V m c main_v45
    = shapeCast S32768x128 (concatenate S2x16384x128 2 [⟨S2x16384x64, (Host.negf (m ((c : Thread nD τ).loc main_arg3) : FVec Ideal S2x16384x64 .f32) : FVec Ideal S2x16384x64 .f32)⟩, ⟨S2x16384x64, (m ((c : Thread nD τ).loc main_arg3) : FVec Ideal S2x16384x64 .f32)⟩] concatenates_S2x16384x64_S2x16384x64_S2x16384x128_d2) shapeCasts_S2x16384x128_S32768x128 := by
  unfold V
  simp only [hostOps0, StableHlo.TRef.binary, StableHlo.TRef.unary, StableHlo.TRef.nary, StableHlo.TRef.toBuf, StableHlo.TRef.ofBuf, cast_eq]
  after_results <;> rfl

/-- the queries' norm's weight -/
theorem V48 (c : Dev nD) : V m c main_v48
    = shapeCast S1x128 (m ((c : Thread nD τ).loc main_arg4) : FVec Ideal S128 .f32) shapeCasts_S128_S1x128 := by
  unfold V
  simp only [hostOps0, StableHlo.TRef.binary, StableHlo.TRef.unary, StableHlo.TRef.nary, StableHlo.TRef.toBuf, StableHlo.TRef.ofBuf, cast_eq]
  after_results <;> rfl

/-- and the keys'. -/
theorem V49 (c : Dev nD) : V m c main_v49
    = shapeCast S1x128 (m ((c : Thread nD τ).loc main_arg5) : FVec Ideal S128 .f32) shapeCasts_S128_S1x128 := by
  unfold V
  simp only [hostOps0, StableHlo.TRef.binary, StableHlo.TRef.unary, StableHlo.TRef.nary, StableHlo.TRef.toBuf, StableHlo.TRef.ofBuf, cast_eq]
  after_results <;> rfl

/-- The rows at a row and a column. -/
theorem rows_at (X : FVec Ideal S2x16384x2048 .f32) (z : S32768x2048.Idx) :
    shapeCast S32768x2048 X shapeCasts_S2x16384x2048_S32768x2048 z
      = X (ix3 ⟨(z 0).val / 16384, by have := (z 0).isLt; change (z 0).val < 32768 at this; omega⟩ ⟨(z 0).val % 16384, Nat.mod_lt _ (by decide)⟩ (z 1)) := by
  pointwise

/-- A table laid out in rows, at a row and a column. -/
theorem table_rows_at (X : FVec Ideal S2x16384x128 .f32) (z : S32768x128.Idx) :
    shapeCast S32768x128 X shapeCasts_S2x16384x128_S32768x128 z
      = X (ix3 ⟨(z 0).val / 16384, by have := (z 0).isLt; change (z 0).val < 32768 at this; omega⟩ ⟨(z 0).val % 16384, Nat.mod_lt _ (by decide)⟩ (z 1)) := by
  pointwise

/-- The cosines' two equal halves. -/
theorem cos_at (C : FVec Ideal S2x16384x64 .f32) (i : Fin 2) (r : Fin 16384) (d : Fin 128) :
    concatenate S2x16384x128 2 [⟨S2x16384x64, C⟩, ⟨S2x16384x64, C⟩] concatenates_S2x16384x64_S2x16384x64_S2x16384x128_d2 (ix3 i r d)
      = C (ix3 i r (angle d)) := by
  pointwise
  unfold angle
  split <;> exact congrArg C (ix3_of_val rfl rfl (by dsimp only; omega))

/-- The sines' two halves, the first negated. -/
theorem sin_at (S : FVec Ideal S2x16384x64 .f32) (i : Fin 2) (r : Fin 16384) (d : Fin 128) :
    concatenate S2x16384x128 2 [⟨S2x16384x64, Host.negf S⟩, ⟨S2x16384x64, S⟩] concatenates_S2x16384x64_S2x16384x64_S2x16384x128_d2 (ix3 i r d)
      = signed (fun e => S (ix3 i r e)) d := by
  pointwise
  unfold signed angle
  split
  · exact congrArg (fun x => -S x) (ix3_of_val rfl rfl (by dsimp only; omega))
  · exact congrArg S (ix3_of_val rfl rfl (by dsimp only; omega))

theorem V47_at (c : Dev nD) (z : S32768x2048.Idx) (i : Fin 2) (r : Fin 16384) (k : Fin 2048)
    (h0 : (z 0).val = i.val * 16384 + r.val) (h1 : (z 1).val = k.val) :
    (V m c main_v47 : FVec Ideal S32768x2048 .bf16) z
      = (m ((c : Thread nD τ).loc main_arg0) : FVec Ideal S2x16384x2048 .f32) (ix3 i r k) := by
  rw [V47]
  refine (rows_at _ z).trans ?_
  refine congrArg _ (ix3_of_val ?_ ?_ h1)
  · show (z 0).val / 16384 = i.val
    omega
  · show (z 0).val % 16384 = r.val
    omega

theorem V40_at (c : Dev nD) (z : S2048x4608.Idx) (k : Fin 2048) (l : Fin 4608) (h0 : (z 0).val = k.val) (h1 : (z 1).val = l.val) :
    (V m c main_v40 : FVec Ideal S2048x4608 .bf16) z
      = (m ((c : Thread nD τ).loc main_arg1) : FVec Ideal S2048x12816 .f32) (ix2 k (col l)) := by
  have hz : z = ix2 k l := by funext b; apply Fin.ext; fin_cases b <;> assumption
  subst hz
  rw [V40]
  exact wide_at _ k l

theorem V42_at (c : Dev nD) (z : S32768x128.Idx) (i : Fin 2) (r : Fin 16384) (d : Fin 128)
    (h0 : (z 0).val = i.val * 16384 + r.val) (h1 : (z 1).val = d.val) :
    (V m c main_v42 : FVec Ideal S32768x128 .f32) z
      = (m ((c : Thread nD τ).loc main_arg2) : FVec Ideal S2x16384x64 .f32) (ix3 i r (angle d)) := by
  rw [V42]
  refine ((table_rows_at _ z).trans ?_).trans (cos_at _ i r d)
  refine congrArg _ (ix3_of_val ?_ ?_ h1)
  · show (z 0).val / 16384 = i.val
    omega
  · show (z 0).val % 16384 = r.val
    omega

theorem V45_at (c : Dev nD) (z : S32768x128.Idx) (i : Fin 2) (r : Fin 16384) (d : Fin 128)
    (h0 : (z 0).val = i.val * 16384 + r.val) (h1 : (z 1).val = d.val) :
    (V m c main_v45 : FVec Ideal S32768x128 .f32) z
      = signed (fun e => (m ((c : Thread nD τ).loc main_arg3) : FVec Ideal S2x16384x64 .f32) (ix3 i r e)) d := by
  rw [V45]
  refine ((table_rows_at _ z).trans ?_).trans (sin_at _ i r d)
  refine congrArg _ (ix3_of_val ?_ ?_ h1)
  · show (z 0).val / 16384 = i.val
    omega
  · show (z 0).val % 16384 = r.val
    omega

theorem norm_weight_at (W : FVec Ideal S128 .f32) (e : Fin 128) : shapeCast S1x128 W shapeCasts_S128_S1x128 (ix2 0 e) = W (ix1 e) := by
  pointwise

/-- A row at a grid point. -/
theorem read0 (c : Dev nD) (t : Fin cfg0.N) (a : Fin 1024) (k : Fin 2048) (i : Fin 2) (r : Fin 16384)
    (h : min t.val 63 / 2 * 1024 + a.val = i.val * 16384 + r.val) :
    (show FVec Ideal S1024x2048 .bf16 from iblk m c 0 t) (ix2 a k)
      = (m ((c : Thread nD τ).loc main_arg0) : FVec Ideal S2x16384x2048 .f32) (ix3 i r k) := by
  refine V47_at m c _ i r k ?_ ?_
  · blk_simp [idx t]; exact h
  · blk_simp [idx t]

/-- The weight at a grid point. -/
theorem read1 (c : Dev nD) (t : Fin cfg0.N) (k : Fin 2048) (j : Fin 2304) (l : Fin 4608)
    (h : l.val = min t.val 63 % 2 * 2304 + j.val) :
    (show FVec Ideal S2048x2304 .bf16 from iblk m c 1 t) (ix2 k j)
      = (m ((c : Thread nD τ).loc main_arg1) : FVec Ideal S2048x12816 .f32) (ix2 k (col l)) := by
  refine V40_at m c _ k l ?_ ?_
  · blk_simp [idx t]
  · blk_simp [idx t]; exact h.symm

/-- The cosines' table at a grid point, -/
theorem read2 (c : Dev nD) (t : Fin cfg0.N) (a : Fin 1024) (d : Fin 128) (i : Fin 2) (r : Fin 16384)
    (h : (t.val - 1) / 2 * 1024 + a.val = i.val * 16384 + r.val) :
    (show FVec Ideal S1024x128 .f32 from iblk m c 2 t) (ix2 a d)
      = (m ((c : Thread nD τ).loc main_arg2) : FVec Ideal S2x16384x64 .f32) (ix3 i r (angle d)) := by
  refine V42_at m c _ i r d ?_ ?_
  · blk_simp [idx t]; exact h
  · blk_simp [idx t]

/-- the sines', -/
theorem read3 (c : Dev nD) (t : Fin cfg0.N) (a : Fin 1024) (d : Fin 128) (i : Fin 2) (r : Fin 16384)
    (h : (t.val - 1) / 2 * 1024 + a.val = i.val * 16384 + r.val) :
    (show FVec Ideal S1024x128 .f32 from iblk m c 3 t) (ix2 a d)
      = signed (fun e => (m ((c : Thread nD τ).loc main_arg3) : FVec Ideal S2x16384x64 .f32) (ix3 i r e)) d := by
  refine V45_at m c _ i r d ?_ ?_
  · blk_simp [idx t]; exact h
  · blk_simp [idx t]

/-- and the norms' weights. -/
theorem read4 (c : Dev nD) (t : Fin cfg0.N) (e : Fin 128) :
    (show FVec Ideal S1x128 .f32 from iblk m c 4 t) (ix2 0 e) = (m ((c : Thread nD τ).loc main_arg4) : FVec Ideal S128 .f32) (ix1 e) := by
  refine Eq.trans ?_ (norm_weight_at _ e)
  rw [← V48]
  refine congrArg (V m c main_v48 : FVec Ideal S1x128 .f32) ?_
  funext b; apply Fin.ext; fin_cases b <;> blk_simp [idx t]

theorem read5 (c : Dev nD) (t : Fin cfg0.N) (e : Fin 128) :
    (show FVec Ideal S1x128 .f32 from iblk m c 5 t) (ix2 0 e) = (m ((c : Thread nD τ).loc main_arg5) : FVec Ideal S128 .f32) (ix1 e) := by
  refine Eq.trans ?_ (norm_weight_at _ e)
  rw [← V49]
  refine congrArg (V m c main_v49 : FVec Ideal S1x128 .f32) ?_
  funext b; apply Fin.ext; fin_cases b <;> blk_simp [idx t]

end Cert.Kernel6Ideal.SwaProj
end
-- ==== Proof.SwaProjTile.lean ====
module
public import proofs.«01_k».proof.Proof.SwaProjCol
public import proofs.«01_k».proof.Proof.Gen.Kernel6Ideal.Value
public import Idealize.ShloMosaic.Lib.Pipeline.ReadBack

/-!
# The attention's input projection: what its scratch and its blocks hold

A point turns and stores what the point before left in the scratch, and leaves its own product there.
-/

@[expose] public section

set_option maxRecDepth 16384

noncomputable section

open Idealize.ShloMosaic Idealize.ShloMosaic.TcCoe Idealize.SL.Sem
open Idealize.ShloMosaic.Pipeline (Dat)

namespace Cert.Kernel6Ideal.SwaProj

open Cert.Kernel6Ideal Cert.Kernel6Ideal.Gen

variable (m : (ℓ : Loc nD τ sig) → Buf (Elt Ideal) ℓ)

/-- A query's or key's tile at an index. -/
theorem tile_at (c s : FVec Ideal S1024x128 .f32) (w : FVec Ideal S1x128 .f32) (x : FVec Ideal S1024x128 .f32) (a : Fin 1024) (d : Fin 128) :
    k0_pay14 c s w x (ix2 a d) = turned (fun e => x (ix2 a e)) (fun e => w (ix2 0 e)) (fun e => c (ix2 a e)) (fun e => s (ix2 a e)) d := by
  have e : (⟨(d.val + 128 - 64) % 128, Nat.mod_lt _ (by decide)⟩ : Fin 128) = across d := Fin.ext (by unfold across; dsimp only; omega)
  pointwise [k0_pay14, turned, normed]
  rw [e]

/-- The scaled norm's weight. -/
theorem weight_at (w : FVec Ideal S1x128 .f32) (e : Fin 128) : k0_pay5 w (ix2 0 e) = w (ix2 0 e) * scale := by
  pointwise [k0_pay5, scale]

/-- What every point leaves in the scratch: its product. -/
theorem scratch (c : Dev nD) (t : Fin cfg0.N) :
    (outsAt0 m c t.val t.isLt).2 = k0_pay1 (k0_pay31 (iblk m c 0 t) (iblk m c 1 t)) := by
  by_cases h0 : t.val % 65 = 0
  · rw [outsAt0_A m c t h0]
    dsimp only
    frame_out
  · rw [outsAt0_B m c t h0]
    dsimp only
    frame_out

/-- What a later point leaves in its block, over the tables, the norms' weights and the scratch. -/
def block (c s : FVec Ideal S1024x128 .f32) (q k : FVec Ideal S1x128 .f32) (x : FVec Ideal S1024x2304 .f32) (a : Fin 1024) (l : Fin 2304) : EReal :=
  if l.val / 128 % 3 = 0 then
    turned (fun e => x (ix2 a ⟨l.val / 128 * 128 + e.val, by omega⟩)) (fun e => q (ix2 0 e) * scale) (fun e => c (ix2 a e)) (fun e => s (ix2 a e)) ⟨l.val % 128, Nat.mod_lt _ (by decide)⟩
  else if l.val / 128 % 3 = 1 then
    turned (fun e => x (ix2 a ⟨l.val / 128 * 128 + e.val, by omega⟩)) (fun e => k (ix2 0 e)) (fun e => c (ix2 a e)) (fun e => s (ix2 a e)) ⟨l.val % 128, Nat.mod_lt _ (by decide)⟩
  else x (ix2 a l)

/-- The tables and a norm's weight as the body recasts them. -/
theorem pay3 (c : FVec Ideal S1024x128 .f32) : k0_pay3 c = c := shapeCast_self _ _

theorem pay4 (c : FVec Ideal S1024x128 .f32) : k0_pay4 c = c := shapeCast_self _ _

theorem pay6 (w : FVec Ideal S1x128 .f32) : k0_pay6 w = w := shapeCast_self _ _

/-- A tile of the scratch at an index. -/
theorem ld_tile (x : FVec Ideal S1024x2304 .f32) (o : Nat) (inb : ∀ b, (![0, o] : Fin 2 → Nat) b + S1024x128.size b ≤ S1024x2304.size b)
    (a : Fin 1024) (e : Fin 128) (l : Fin 2304) (h : l.val = o + e.val) :
    (View.ld (Val := Elt Ideal) (e' := .f32) x (Rect.unit (s := S1024x2304) ![0, o] S1024x128.size inb) : FVec Ideal S1024x128 .f32) (ix2 a e) = x (ix2 a l) := by
  refine View.ld_unit_apply_of (S := S1024x2304) (Val := Elt Ideal) (e := .f32) x _ _ inb _ _ fun b => ?_
  fin_cases b
  · show a.val = 0 + a.val
    omega
  · exact h

/-- A tile stored at 128 columns is the block's part there when every entry is. -/
theorem tile_of (y : FVec Ideal S1024x128 .bf16) (v : EReal) (g : Nat) (a : Fin 1024) (l : Fin 2304)
    (h : ∀ e : Fin 128, l.val = g * 128 + e.val → y (ix2 a e) = v) :
    View.TileAt (S := S1024x2304) (e := .bf16) (Val := Elt Ideal) (ix2 a l) ![0, g * 128] S1024x128.size y v := by
  intro x hx
  have h0 : a.val = 0 + (x 0).val := hx 0
  have h1 : l.val = g * 128 + (x 1).val := hx 1
  have hxe : x = (ix2 a (x 1) : S1024x128.Idx) := by
    funext b; apply Fin.ext; fin_cases b
    · show (x 0).val = a.val
      omega
    · rfl
  rw [hxe]
  exact h (x 1) h1

/-- A query's tile, -/
theorem q_tile (c s : FVec Ideal S1024x128 .f32) (q k : FVec Ideal S1x128 .f32) (x : FVec Ideal S1024x2304 .f32) (a : Fin 1024) (l : Fin 2304)
    (g : Nat) (hg : g % 3 = 0) (inb : ∀ b, (![0, g * 128] : Fin 2 → Nat) b + S1024x128.size b ≤ S1024x2304.size b) :
    View.TileAt (S := S1024x2304) (e := .bf16) (Val := Elt Ideal) (ix2 a l) ![0, g * 128] S1024x128.size
      (k0_pay14 (k0_pay3 c) (k0_pay4 s) (k0_pay5 q) (View.ld x (Rect.unit (s := S1024x2304) ![0, g * 128] S1024x128.size inb)) : FVec Ideal S1024x128 .bf16)
      (block c s q k x a l) := by
  refine tile_of _ _ g a l fun e he => ?_
  have hl : l.val / 128 = g := by omega
  have hd : (⟨l.val % 128, Nat.mod_lt _ (by decide)⟩ : Fin 128) = e := Fin.ext (by dsimp only; omega)
  unfold block
  rw [tile_at, pay3, pay4, if_pos (by omega), hd]
  simp only [weight_at]
  refine congrArg (fun f => turned f _ _ _ _) ?_
  funext e'
  exact ld_tile x _ inb a e' _ (by dsimp only; omega)

/-- a key's, -/
theorem k_tile (c s : FVec Ideal S1024x128 .f32) (q k : FVec Ideal S1x128 .f32) (x : FVec Ideal S1024x2304 .f32) (a : Fin 1024) (l : Fin 2304)
    (g : Nat) (hg : g % 3 = 1) (inb : ∀ b, (![0, g * 128] : Fin 2 → Nat) b + S1024x128.size b ≤ S1024x2304.size b) :
    View.TileAt (S := S1024x2304) (e := .bf16) (Val := Elt Ideal) (ix2 a l) ![0, g * 128] S1024x128.size
      (k0_pay14 (k0_pay3 c) (k0_pay4 s) (k0_pay6 k) (View.ld x (Rect.unit (s := S1024x2304) ![0, g * 128] S1024x128.size inb)) : FVec Ideal S1024x128 .bf16)
      (block c s q k x a l) := by
  refine tile_of _ _ g a l fun e he => ?_
  have hl : l.val / 128 = g := by omega
  have hd : (⟨l.val % 128, Nat.mod_lt _ (by decide)⟩ : Fin 128) = e := Fin.ext (by dsimp only; omega)
  unfold block
  rw [tile_at, pay3, pay4, pay6, if_neg (by omega), if_pos (by omega), hd]
  refine congrArg (fun f => turned f _ _ _ _) ?_
  funext e'
  exact ld_tile x _ inb a e' _ (by dsimp only; omega)

/-- and a value's. -/
theorem v_tile (c s : FVec Ideal S1024x128 .f32) (q k : FVec Ideal S1x128 .f32) (x : FVec Ideal S1024x2304 .f32) (a : Fin 1024) (l : Fin 2304)
    (g : Nat) (hg : g % 3 = 2) (inb : ∀ b, (![0, g * 128] : Fin 2 → Nat) b + S1024x128.size b ≤ S1024x2304.size b) :
    View.TileAt (S := S1024x2304) (e := .bf16) (Val := Elt Ideal) (ix2 a l) ![0, g * 128] S1024x128.size
      (k0_pay10 (View.ld x (Rect.unit (s := S1024x2304) ![0, g * 128] S1024x128.size inb)) : FVec Ideal S1024x128 .bf16)
      (block c s q k x a l) := by
  refine tile_of _ _ g a l fun e he => ?_
  have hl : l.val / 128 = g := by omega
  unfold block
  rw [if_neg (by omega), if_neg (by omega)]
  refine Eq.trans ?_ (ld_tile x _ inb a e l (by omega))
  pointwise [k0_pay10]

/-- Every tile the body stores is the block's part there. -/
theorem tiles (c : Dev nD) (i : grid0.Coords) (arg1 : Memref sig .tc .vmem S1024x2048 .bf16) (harg1 : arg1.IsWhole) (arg2 : Memref sig .tc .vmem S2048x2304 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x2304 .bf16) (harg7 : arg7.IsWhole) (arg8 : Memref sig .tc .vmem S1024x2304 .f32) (harg8 : arg8.IsWhole) (hc0 : ¬cond0_0 i)
    (x0 : Vec Ideal S1024x2048 .bf16) (x1 : Vec Ideal S2048x2304 .bf16) (x2 : Vec Ideal S1024x128 .f32) (x3 : Vec Ideal S1024x128 .f32) (x4 : Vec Ideal S1x128 .f32) (x5 : Vec Ideal S1x128 .f32) (xs0 : Vec Ideal S1024x2304 .f32) (a : Fin 1024) (l : Fin 2304) :
    View.AllAt (kernelRun0_B c i arg1 harg1 arg2 harg2 arg3 harg3 arg4 harg4 arg5 harg5 arg6 harg6 arg7 harg7 arg8 harg8 hc0 x0 x1 x2 x3 x4 x5 xs0).1 (ix2 a l) (block x2 x3 x4 x5 xs0 a l) := by
  have hz : (![0, 0] : Fin 2 → Nat) = fun _ => 0 := by funext b; fin_cases b <;> rfl
  unfold kernelRun0_B
  dsimp only
  simp only [kernelRun0_B.sl.r, kernelRun0_B.sl.r_1, kernelRun0_B.sl.r_2, kernelRun0_B.sl.r_3, kernelRun0_B.sl.r_4, kernelRun0_B.sl.r_5,
    kernelRun0_B.sl.r_6, kernelRun0_B.sl.r_7, kernelRun0_B.sl.r_8, kernelRun0_B.sl.r_9, kernelRun0_B.sl.r_10, kernelRun0_B.sl.r_11,
    View.readAt_eq_ld, Memref.IsWhole.read_unread, View.ld_unit_zero (S := S1024x128) hz, View.ld_unit_zero (S := S1x128) hz]
  refine View.allAt_cons_unit _ _ _ _ _ (v_tile x2 x3 x4 x5 xs0 a l 17 (by decide) _) ?_
  refine View.allAt_cons_unit _ _ _ _ _ (k_tile x2 x3 x4 x5 xs0 a l 16 (by decide) _) ?_
  refine View.allAt_cons_unit _ _ _ _ _ (q_tile x2 x3 x4 x5 xs0 a l 15 (by decide) _) ?_
  refine View.allAt_cons_unit _ _ _ _ _ (v_tile x2 x3 x4 x5 xs0 a l 14 (by decide) _) ?_
  refine View.allAt_cons_unit _ _ _ _ _ (k_tile x2 x3 x4 x5 xs0 a l 13 (by decide) _) ?_
  refine View.allAt_cons_unit _ _ _ _ _ (q_tile x2 x3 x4 x5 xs0 a l 12 (by decide) _) ?_
  refine View.allAt_cons_unit _ _ _ _ _ (v_tile x2 x3 x4 x5 xs0 a l 11 (by decide) _) ?_
  refine View.allAt_cons_unit _ _ _ _ _ (k_tile x2 x3 x4 x5 xs0 a l 10 (by decide) _) ?_
  refine View.allAt_cons_unit _ _ _ _ _ (q_tile x2 x3 x4 x5 xs0 a l 9 (by decide) _) ?_
  refine View.allAt_cons_unit _ _ _ _ _ (v_tile x2 x3 x4 x5 xs0 a l 8 (by decide) _) ?_
  refine View.allAt_cons_unit _ _ _ _ _ (k_tile x2 x3 x4 x5 xs0 a l 7 (by decide) _) ?_
  refine View.allAt_cons_unit _ _ _ _ _ (q_tile x2 x3 x4 x5 xs0 a l 6 (by decide) _) ?_
  refine View.allAt_cons_unit _ _ _ _ _ (v_tile x2 x3 x4 x5 xs0 a l 5 (by decide) _) ?_
  refine View.allAt_cons_unit _ _ _ _ _ (k_tile x2 x3 x4 x5 xs0 a l 4 (by decide) _) ?_
  refine View.allAt_cons_unit _ _ _ _ _ (q_tile x2 x3 x4 x5 xs0 a l 3 (by decide) _) ?_
  refine View.allAt_cons_unit _ _ _ _ _ (v_tile x2 x3 x4 x5 xs0 a l 2 (by decide) _) ?_
  refine View.allAt_cons_unit _ _ _ _ _ (k_tile x2 x3 x4 x5 xs0 a l 1 (by decide) _) ?_
  refine View.allAt_cons_unit _ _ _ _ _ (q_tile x2 x3 x4 x5 xs0 a l 0 (by decide) _) ?_
  exact View.allAt_nil _ _

/-- What the body leaves in its block: those tiles. -/
theorem out_at (c : Dev nD) (i : grid0.Coords) (arg1 : Memref sig .tc .vmem S1024x2048 .bf16) (harg1 : arg1.IsWhole) (arg2 : Memref sig .tc .vmem S2048x2304 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x2304 .bf16) (harg7 : arg7.IsWhole) (arg8 : Memref sig .tc .vmem S1024x2304 .f32) (harg8 : arg8.IsWhole) (hc0 : ¬cond0_0 i)
    (x0 : Vec Ideal S1024x2048 .bf16) (x1 : Vec Ideal S2048x2304 .bf16) (x2 : Vec Ideal S1024x128 .f32) (x3 : Vec Ideal S1024x128 .f32) (x4 : Vec Ideal S1x128 .f32) (x5 : Vec Ideal S1x128 .f32) (xs0 : Vec Ideal S1024x2304 .f32) (a : Fin 1024) (l : Fin 2304) :
    out0_B_6 c i arg1 harg1 arg2 harg2 arg3 harg3 arg4 harg4 arg5 harg5 arg6 harg6 arg7 harg7 arg8 harg8 hc0 x0 x1 x2 x3 x4 x5 xs0 (ix2 a l) = block x2 x3 x4 x5 xs0 a l := by
  have hcov := cover0_B_6 c i arg1 harg1 arg2 harg2 arg3 harg3 arg4 harg4 arg5 harg5 arg6 harg6 arg7 harg7 arg8 harg8 hc0 x0 x1 x2 x3 x4 x5 xs0 (ix2 a l)
  have hall := tiles c i arg1 harg1 arg2 harg2 arg3 harg3 arg4 harg4 arg5 harg5 arg6 harg6 arg7 harg7 arg8 harg8 hc0 x0 x1 x2 x3 x4 x5 xs0 a l
  unfold out0_B_6
  generalize (kernelRun0_B c i arg1 harg1 arg2 harg2 arg3 harg3 arg4 harg4 arg5 harg5 arg6 harg6 arg7 harg7 arg8 harg8 hc0 x0 x1 x2 x3 x4 x5 xs0).1 = L at hcov hall ⊢
  exact (View.read_writes_apply_eq_canon VO0_6 VO0_6.junk (ix2 a l) L hcov).trans (View.canon_eq_of_allAt L _ _ hcov hall)

/-- What a later point leaves in its block, over what the point before left in the scratch. -/
theorem out (c : Dev nD) (t : Fin cfg0.N) (h0 : ¬t.val % 65 = 0) (a : Fin 1024) (l : Fin 2304) :
    (outsAt0 m c t.val t.isLt).1 (ix2 a l)
      = block (iblk m c 2 t) (iblk m c 3 t) (iblk m c 4 t) (iblk m c 5 t) (outsAt0 m c (t.val - 1) (by omega)).2 a l := by
  rw [outsAt0_B m c t h0]
  dsimp only
  rw [out_at]

end Cert.Kernel6Ideal.SwaProj
end
-- ==== Proof.SwaProjRef.lean ====
module
public import proofs.«01_k».proof.Proof.SwaProjCol
public import proofs.«01_k».proof.Proof.Gen.Reference6Ideal.Run

/-!
# The attention's input projection: the reference, at an index
-/

@[expose] public section

set_option maxRecDepth 16384

noncomputable section

open Idealize.ShloMosaic Idealize.ShloMosaic.TcCoe Idealize.SL.Sem
open Idealize.ShloMosaic.Pipeline (Dat)

open Cert.Reference6Ideal (S2x16384x4608 S2x16384x1536 S2x16384x12x128 S2x16384x12x64 S2x16384x12x1 S2x16384x12x1x128 S2x16384x12x3x128 S1x1x1x128 S2x16384x1x128 S32768x3x4x384 S32768x4x3x384 S_)

namespace Cert.Kernel6Ideal.SwaProj

open Cert.Kernel6Ideal Cert.Kernel6Ideal.Gen

/-- The reference's projection. -/
abbrev REFproj (H : FVec Ideal S2x16384x2048 .f32) (U : FVec Ideal S2048x12816 .f32) : FVec Ideal S2x16384x4608 .f32 :=
  extractStridedSlice S2x16384x4608 ![0, 0, 4112] (Host.dotGeneral Cert.Reference6Ideal.dot_S2x16384x2048_S2048x12816_S2x16384x12816_2_0_01_1_n_n none H U)
    Cert.Reference6Ideal.Gen.slices_S2x16384x12816_S2x16384x4608_0_0_4112

/-- Its queries, head by head, -/
abbrev REFq (P : FVec Ideal S2x16384x4608 .f32) : FVec Ideal S2x16384x12x128 .f32 :=
  shapeCast _ (extractStridedSlice S2x16384x1536 ![0, 0, 0] P Cert.Reference6Ideal.Gen.slices_S2x16384x4608_S2x16384x1536_0_0_0)
    Cert.Reference6Ideal.Gen.shapeCasts_S2x16384x1536_S2x16384x12x128

/-- its keys -/
abbrev REFk (P : FVec Ideal S2x16384x4608 .f32) : FVec Ideal S2x16384x12x128 .f32 :=
  shapeCast _ (extractStridedSlice S2x16384x1536 ![0, 0, 1536] P Cert.Reference6Ideal.Gen.slices_S2x16384x4608_S2x16384x1536_0_0_1536)
    Cert.Reference6Ideal.Gen.shapeCasts_S2x16384x1536_S2x16384x12x128

/-- and its values. -/
abbrev REFv (P : FVec Ideal S2x16384x4608 .f32) : FVec Ideal S2x16384x12x128 .f32 :=
  shapeCast _ (extractStridedSlice S2x16384x1536 ![0, 0, 3072] P Cert.Reference6Ideal.Gen.slices_S2x16384x4608_S2x16384x1536_0_0_3072)
    Cert.Reference6Ideal.Gen.shapeCasts_S2x16384x1536_S2x16384x12x128

/-- The reference's norm of each head. -/
abbrev REFnorm (Y : FVec Ideal S2x16384x12x128 .f32) (W : FVec Ideal S128 .f32) : FVec Ideal S2x16384x12x128 .f32 :=
  mulf (mulf Y (broadcastInDim S2x16384x12x128 ![0, 1, 2, 3] Cert.Reference6Ideal.Gen.bcast_S2x16384x12x1_S2x16384x12x128_0_1_2_3
    (Host.rsqrt (addf (Host.divf (broadcastInDim S2x16384x12x1 ![0, 1, 2] Cert.Reference6Ideal.Gen.bcast_S2x16384x12_S2x16384x12x1_0_1_2
      (Host.reduceAdd (mulf Y Y) (constant S_ .f32 0x00000000#32) Cert.Reference6Ideal.Gen.reducesTo_S2x16384x12x128_S2x16384x12_d3 Cert.Reference6Ideal.Gen.h_S_))
      (broadcastInDim S2x16384x12x1 ![] Cert.Reference6Ideal.Gen.bcast_S_S2x16384x12x1 (constant S_ .f32 0x43000000#32)))
      (broadcastInDim S2x16384x12x1 ![] Cert.Reference6Ideal.Gen.bcast_S_S2x16384x12x1 (constant S_ .f32 0x358637BD#32))))))
    (broadcastInDim S2x16384x12x128 ![0, 1, 2, 3] Cert.Reference6Ideal.Gen.bcast_S1x1x1x128_S2x16384x12x128_0_1_2_3
      (broadcastInDim S1x1x1x128 ![3] Cert.Reference6Ideal.Gen.bcast_S128_S1x1x1x128_3 W))

/-- A table's two equal halves, for every head. -/
abbrev REFtable (C : FVec Ideal S2x16384x64 .f32) : FVec Ideal S2x16384x12x128 .f32 :=
  broadcastInDim S2x16384x12x128 ![0, 1, 2, 3] Cert.Reference6Ideal.Gen.bcast_S2x16384x1x128_S2x16384x12x128_0_1_2_3
    (broadcastInDim S2x16384x1x128 ![0, 1, 3] Cert.Reference6Ideal.Gen.bcast_S2x16384x128_S2x16384x1x128_0_1_3
      (concatenate S2x16384x128 2 [⟨S2x16384x64, C⟩, ⟨S2x16384x64, C⟩] Cert.Reference6Ideal.Gen.concatenates_S2x16384x64_S2x16384x64_S2x16384x128_d2))

/-- The reference's rotary embedding. -/
abbrev REFrope (Y : FVec Ideal S2x16384x12x128 .f32) (C S : FVec Ideal S2x16384x64 .f32) : FVec Ideal S2x16384x12x128 .f32 :=
  addf (mulf Y (REFtable C)) (mulf (concatenate S2x16384x12x128 3
    [⟨S2x16384x12x64, Host.negf (extractStridedSlice S2x16384x12x64 ![0, 0, 0, 64] Y Cert.Reference6Ideal.Gen.slices_S2x16384x12x128_S2x16384x12x64_0_0_0_64)⟩,
     ⟨S2x16384x12x64, extractStridedSlice S2x16384x12x64 ![0, 0, 0, 0] Y Cert.Reference6Ideal.Gen.slices_S2x16384x12x128_S2x16384x12x64_0_0_0_0⟩]
    Cert.Reference6Ideal.Gen.concatenates_S2x16384x12x64_S2x16384x12x64_S2x16384x12x128_d3) (REFtable S))

/-- The reference's result over the queries, keys and values: heads by residue, each head's three side by side. -/
abbrev REFstack (Q K V : FVec Ideal S2x16384x12x128 .f32) : FVec Ideal S32768x4608 .bf16 :=
  truncf .bf16 (shapeCast _ (transpose S32768x4x3x384 [0, 2, 1, 3] (shapeCast _ (concatenate S2x16384x12x3x128 3
    [⟨S2x16384x12x1x128, broadcastInDim S2x16384x12x1x128 ![0, 1, 2, 4] Cert.Reference6Ideal.Gen.bcast_S2x16384x12x128_S2x16384x12x1x128_0_1_2_4 Q⟩,
     ⟨S2x16384x12x1x128, broadcastInDim S2x16384x12x1x128 ![0, 1, 2, 4] Cert.Reference6Ideal.Gen.bcast_S2x16384x12x128_S2x16384x12x1x128_0_1_2_4 K⟩,
     ⟨S2x16384x12x1x128, broadcastInDim S2x16384x12x1x128 ![0, 1, 2, 4] Cert.Reference6Ideal.Gen.bcast_S2x16384x12x128_S2x16384x12x1x128_0_1_2_4 V⟩]
    Cert.Reference6Ideal.Gen.concatenates_S2x16384x12x1x128_S2x16384x12x1x128_S2x16384x12x1x128_S2x16384x12x3x128_d3)
    Cert.Reference6Ideal.Gen.shapeCasts_S2x16384x12x3x128_S32768x3x4x384) Cert.Reference6Ideal.Gen.transposes_S32768x3x4x384_S32768x4x3x384_0_2_1_3)
    Cert.Reference6Ideal.Gen.shapeCasts_S32768x4x3x384_S32768x4608) Cert.Reference6Ideal.Gen.bitsLt_bf16_f32

/-- The reference's result. -/
abbrev REF (H : FVec Ideal S2x16384x2048 .f32) (U : FVec Ideal S2048x12816 .f32) (C S : FVec Ideal S2x16384x64 .f32)
    (Wq Wk : FVec Ideal S128 .f32) : FVec Ideal S32768x4608 .bf16 :=
  REFstack (mulf (REFrope (REFnorm (REFq (REFproj H U)) Wq) C S)
      (broadcastInDim S2x16384x12x128 ![] Cert.Reference6Ideal.Gen.bcast_S_S2x16384x12x128 (constant S_ .f32 0x3DB504F3#32)))
    (REFrope (REFnorm (REFk (REFproj H U)) Wk) C S) (REFv (REFproj H U))

/-- An entry of the projection. -/
def entry (H : FVec Ideal S2x16384x2048 .f32) (U : FVec Ideal S2048x12816 .f32) (i : Fin 2) (r : Fin 16384) (l : Fin 12816) : EReal :=
  ∑ k : Fin 2048, H (ix3 i r k) * U (ix2 k l)

theorem proj_at (H : FVec Ideal S2x16384x2048 .f32) (U : FVec Ideal S2048x12816 .f32) (i : Fin 2) (r : Fin 16384) (l : Fin 4608) :
    REFproj H U (ix3 i r l) = entry H U i r ⟨4112 + l.val, by omega⟩ := by
  pointwise [REFproj, entry]

theorem q_at (P : FVec Ideal S2x16384x4608 .f32) (i : Fin 2) (r : Fin 16384) (n : Fin 12) (d : Fin 128) :
    REFq P (ix4 i r n d) = P (ix3 i r ⟨n.val * 128 + d.val, by omega⟩) := by
  pointwise [REFq]

theorem k_at (P : FVec Ideal S2x16384x4608 .f32) (i : Fin 2) (r : Fin 16384) (n : Fin 12) (d : Fin 128) :
    REFk P (ix4 i r n d) = P (ix3 i r ⟨1536 + (n.val * 128 + d.val), by omega⟩) := by
  pointwise [REFk]

theorem v_at (P : FVec Ideal S2x16384x4608 .f32) (i : Fin 2) (r : Fin 16384) (n : Fin 12) (d : Fin 128) :
    REFv P (ix4 i r n d) = P (ix3 i r ⟨3072 + (n.val * 128 + d.val), by omega⟩) := by
  pointwise [REFv]

theorem norm_at (Y : FVec Ideal S2x16384x12x128 .f32) (W : FVec Ideal S128 .f32) (i : Fin 2) (r : Fin 16384) (n : Fin 12) (d : Fin 128) :
    REFnorm Y W (ix4 i r n d) = normed (fun e => Y (ix4 i r n e)) (fun e => W (ix1 e)) d := by
  pointwise [REFnorm, normed]

theorem table_at (C : FVec Ideal S2x16384x64 .f32) (i : Fin 2) (r : Fin 16384) (n : Fin 12) (d : Fin 128) :
    REFtable C (ix4 i r n d) = C (ix3 i r (angle d)) := by
  pointwise [REFtable]
  unfold angle
  split <;> exact congrArg C (ix3_of_val rfl rfl (by dsimp only; omega))

theorem rope_at (Y : FVec Ideal S2x16384x12x128 .f32) (C S : FVec Ideal S2x16384x64 .f32) (i : Fin 2) (r : Fin 16384) (n : Fin 12) (d : Fin 128) :
    REFrope Y C S (ix4 i r n d) = Y (ix4 i r n d) * C (ix3 i r (angle d))
      + (if d.val < 64 then -Y (ix4 i r n (across d)) else Y (ix4 i r n (across d))) * S (ix3 i r (angle d)) := by
  have e := table_at C i r n d
  have e' := table_at S i r n d
  unfold REFrope
  generalize REFtable C = C' at e
  generalize REFtable S = S' at e'
  pointwise
  rw [e, e']
  have ea : ∀ h : d.val < 64, (⟨64 + d.val, by omega⟩ : Fin 128) = across d := fun h => Fin.ext (by unfold across; dsimp only; omega)
  have eb : ∀ h : ¬d.val < 64, (⟨d.val - 64, by omega⟩ : Fin 128) = across d := fun h => Fin.ext (by unfold across; dsimp only; omega)
  by_cases h : d.val < 64
  · simp only [h, dite_true, if_true, ea h]
  · simp only [h, dite_false, if_false, eb h]

/-- The residue and the place of a column's head among the heads, and its entry in the head. -/
def head (l : Fin 4608) : Fin 12 := ⟨l.val / 384 % 3 * 4 + l.val / 1152, by omega⟩

def lane (l : Fin 4608) : Fin 128 := ⟨l.val % 128, Nat.mod_lt _ (by decide)⟩

theorem ix4_of_val {i j : Fin 2} {r q : Fin 16384} {n k : Fin 12} {d e : Fin 128} (h0 : i.val = j.val) (h1 : r.val = q.val)
    (h2 : n.val = k.val) (h3 : d.val = e.val) : (ix4 i r n d : S2x16384x12x128.Idx) = ix4 j q k e := by
  rw [Fin.ext h0, Fin.ext h1, Fin.ext h2, Fin.ext h3]

/-- The stack at an index: the queries, -/
theorem stack_q (Q K V : FVec Ideal S2x16384x12x128 .f32) (z : S32768x4608.Idx) (i : Fin 2) (r : Fin 16384) (l : Fin 4608)
    (h0 : (z 0).val = i.val * 16384 + r.val) (h1 : (z 1).val = l.val) (h : l.val / 128 % 3 = 0) :
    REFstack Q K V z = Q (ix4 i r (head l) (lane l)) := by
  pointwise [REFstack]
  rw [dif_pos (by omega)]
  refine congrArg Q (ix4_of_val ?_ ?_ ?_ ?_) <;> dsimp only [head, lane] <;> omega

/-- the keys, -/
theorem stack_k (Q K V : FVec Ideal S2x16384x12x128 .f32) (z : S32768x4608.Idx) (i : Fin 2) (r : Fin 16384) (l : Fin 4608)
    (h0 : (z 0).val = i.val * 16384 + r.val) (h1 : (z 1).val = l.val) (h : l.val / 128 % 3 = 1) :
    REFstack Q K V z = K (ix4 i r (head l) (lane l)) := by
  pointwise [REFstack]
  rw [dif_neg (by omega), dif_pos (by omega)]
  refine congrArg K (ix4_of_val ?_ ?_ ?_ ?_) <;> dsimp only [head, lane] <;> omega

/-- and the values. -/
theorem stack_v (Q K V : FVec Ideal S2x16384x12x128 .f32) (z : S32768x4608.Idx) (i : Fin 2) (r : Fin 16384) (l : Fin 4608)
    (h0 : (z 0).val = i.val * 16384 + r.val) (h1 : (z 1).val = l.val) (h : ¬l.val / 128 % 3 = 0) (h' : ¬l.val / 128 % 3 = 1) :
    REFstack Q K V z = V (ix4 i r (head l) (lane l)) := by
  pointwise [REFstack]
  rw [dif_neg (by omega), dif_neg (by omega)]
  refine congrArg V (ix4_of_val ?_ ?_ ?_ ?_) <;> dsimp only [head, lane] <;> omega

/-- The reference's result at a row and a column. -/
theorem REF_at (H : FVec Ideal S2x16384x2048 .f32) (U : FVec Ideal S2048x12816 .f32) (C S : FVec Ideal S2x16384x64 .f32)
    (Wq Wk : FVec Ideal S128 .f32) (z : S32768x4608.Idx) (i : Fin 2) (r : Fin 16384) (l : Fin 4608)
    (h0 : (z 0).val = i.val * 16384 + r.val) (h1 : (z 1).val = l.val) :
    REF H U C S Wq Wk z
      = if l.val / 128 % 3 = 0 then
          plain (fun e => entry H U i r ⟨4112 + ((head l).val * 128 + e.val), by omega⟩) (fun e => Wq (ix1 e)) (fun e => C (ix3 i r e)) (fun e => S (ix3 i r e)) (lane l) * scale
        else if l.val / 128 % 3 = 1 then
          plain (fun e => entry H U i r ⟨5648 + ((head l).val * 128 + e.val), by omega⟩) (fun e => Wk (ix1 e)) (fun e => C (ix3 i r e)) (fun e => S (ix3 i r e)) (lane l)
        else entry H U i r ⟨7184 + ((head l).val * 128 + (lane l).val), by omega⟩ := by
  unfold REF
  by_cases h : l.val / 128 % 3 = 0
  · rw [if_pos h, stack_q _ _ _ z i r l h0 h1 h]
    refine Eq.trans (b := REFrope (REFnorm (REFq (REFproj H U)) Wq) C S (ix4 i r (head l) (lane l)) * scale) rfl ?_
    rw [rope_at]
    simp only [norm_at, q_at, proj_at]
    rfl
  · rw [if_neg h]
    by_cases h' : l.val / 128 % 3 = 1
    · rw [if_pos h', stack_k _ _ _ z i r l h0 h1 h', rope_at]
      simp only [norm_at, k_at, proj_at]
      unfold plain
      simp only [← Nat.add_assoc]
    · rw [if_neg h', stack_v _ _ _ z i r l h0 h1 h h', v_at, proj_at]
      simp only [← Nat.add_assoc]

end Cert.Kernel6Ideal.SwaProj
end
-- ==== Proof.SwaProj.lean ====
module
public import proofs.«01_k».proof.Proof.SwaProjBlocks
public import proofs.«01_k».proof.Proof.SwaProjTile
public import proofs.«01_k».proof.Proof.SwaProjRef

/-!
# The attention's input projection: the kernel's result is the reference's

A point's block is the product of the point before, turned; the product's column, the head's tables and the norm's weight are the
reference's at the same row and head.
-/

@[expose] public section

set_option maxRecDepth 16384

noncomputable section

open Idealize.ShloMosaic Idealize.ShloMosaic.TcCoe Idealize.SL.Sem
open Idealize.ShloMosaic.Pipeline (Dat)

namespace Cert.Kernel6Ideal.SwaProj

open Cert.Kernel6Ideal Cert.Kernel6Ideal.Gen

/-- The body's product at an index. -/
theorem product_at (x : FVec Ideal S1024x2048 .bf16) (w : FVec Ideal S2048x2304 .bf16) (a : Fin 1024) (j : Fin 2304) :
    k0_pay1 (F := Ideal) (k0_pay31 x w) (ix2 a j) = (∑ k : Fin 2048, (x (ix2 a k) : EReal) * (w (ix2 k j) : EReal) : EReal) := by
  pointwise [k0_pay1, k0_pay31]

variable (m : (ℓ : Loc nD τ sig) → Buf (Elt Ideal) ℓ)

/-- The scratch that a point finds, at a row and a column. -/
theorem found (c : Dev nD) (t : Fin cfg0.N) (h0 : ¬t.val % 65 = 0) (a : Fin 1024) (j : Fin 2304) (i : Fin 2) (r : Fin 16384) (l : Fin 4608)
    (h : (t.val - 1) / 2 * 1024 + a.val = i.val * 16384 + r.val) (hl : l.val = (t.val - 1) % 2 * 2304 + j.val) :
    (show FVec Ideal S1024x2304 .f32 from (outsAt0 m c (t.val - 1) (by omega)).2) (ix2 a j)
      = entry (m ((c : Thread nD τ).loc main_arg0)) (m ((c : Thread nD τ).loc main_arg1)) i r (col l) := by
  have ht : t.val < 65 := lt_of_lt_of_eq t.isLt N_0
  have hm : min (t.val - 1) 63 = t.val - 1 := by omega
  refine (congrFun (scratch m c ⟨t.val - 1, by omega⟩) (ix2 a j)).trans ((product_at _ _ a j).trans ?_)
  refine Finset.sum_congr rfl fun k _ => congrArg₂ (· * ·) (read0 m c _ a k i r ?_) (read1 m c _ k j l ?_)
  · dsimp only; rw [hm]; exact h
  · dsimp only; rw [hm]; exact hl

theorem turned_congr {y y' w w' c c' s s' : Fin 128 → EReal} (hy : ∀ e, y e = y' e) (hw : ∀ e, w e = w' e) (hc : ∀ e, c e = c' e)
    (hs : ∀ e, s e = s' e) (d : Fin 128) : turned y w c s d = turned y' w' c' s' d := by
  rw [funext hy, funext hw, funext hc, funext hs]

/-- A block's entry is the reference's. -/
theorem block_eq (c : Dev nD) (t : Fin cfg0.N) (h0 : ¬t.val % 65 = 0) (a : Fin 1024) (j : Fin 2304) (i : Fin 2) (r : Fin 16384) (l : Fin 4608)
    (h : (t.val - 1) / 2 * 1024 + a.val = i.val * 16384 + r.val) (hl : l.val = (t.val - 1) % 2 * 2304 + j.val)
    (z : S32768x4608.Idx) (hz0 : (z 0).val = i.val * 16384 + r.val) (hz1 : (z 1).val = l.val) :
    block (iblk m c 2 t) (iblk m c 3 t) (iblk m c 4 t) (iblk m c 5 t) (outsAt0 m c (t.val - 1) (by omega)).2 a j
      = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) z := by
  have hp : j.val / 128 % 3 = l.val / 128 % 3 := by omega
  have hd : (⟨j.val % 128, Nat.mod_lt _ (by decide)⟩ : Fin 128) = lane l := Fin.ext (by unfold lane; dsimp only; omega)
  have hs : ∀ e : Fin 128, _ := fun e => found m c t h0 a ⟨j.val / 128 * 128 + e.val, by omega⟩ i r ⟨l.val / 128 * 128 + e.val, by omega⟩ h (by dsimp only; omega)
  rw [REF_at _ _ _ _ _ _ z i r l hz0 hz1]
  unfold block
  rw [hd, hp]
  by_cases hq : l.val / 128 % 3 = 0
  · rw [if_pos hq, if_pos hq]
    refine (turned_scale _ _ _ _ _).trans (congrArg (· * scale) (Eq.trans ?_ (turned_eq _ _ _ _ _)))
    exact turned_congr (fun e => (hs e).trans (congrArg (entry _ _ i r) (Fin.ext (by unfold col head; dsimp only; omega))))
      (fun e => read4 m c t e) (fun e => read2 m c t a e i r h) (fun e => read3 m c t a e i r h) _
  · rw [if_neg hq, if_neg hq]
    by_cases hk : l.val / 128 % 3 = 1
    · rw [if_pos hk, if_pos hk]
      refine Eq.trans ?_ (turned_eq _ _ _ _ _)
      exact turned_congr (fun e => (hs e).trans (congrArg (entry _ _ i r) (Fin.ext (by unfold col head; dsimp only; omega))))
        (fun e => read5 m c t e) (fun e => read2 m c t a e i r h) (fun e => read3 m c t a e i r h) _
    · rw [if_neg hk, if_neg hk]
      exact (found m c t h0 a j i r l h hl).trans (congrArg (entry _ _ i r) (Fin.ext (by unfold col head lane; dsimp only; omega)))

/-- The result's blocks are written back after the first point. -/
theorem flushed : ∀ t : Fin cfg0.N, (cfg0.win 6).flush t = true → ¬t.val % 65 = 0 := by
  decide +kernel

/-- The result array after the run. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht : t.val < 65 := lt_of_lt_of_eq t.isLt N_0
  have h0 : ¬t.val % 65 = 0 := flushed t hf
  blk_simp
  rw [after0_6]
  have ha : (y 0).val < 1024 := (y 0).isLt
  have hj : (y 1).val < 2304 := (y 1).isLt
  have hy : y = (ix2 (y 0) (y 1) : S1024x2304.Idx) := by funext b; fin_cases b <;> rfl
  have e0 : (((View.whole main_v50).slice (win0_6.rect t)).emb y 0 : ℕ) = (t.val - 1) / 2 * 1024 + (y 0).val := by blk_simp [idx t]
  have e1 : (((View.whole main_v50).slice (win0_6.rect t)).emb y 1 : ℕ) = (t.val - 1) % 2 * 2304 + (y 1).val := by blk_simp [idx t]
  refine (congrArg _ hy).trans ((out m c t h0 (y 0) (y 1)).trans ?_)
  exact block_eq m c t h0 (y 0) (y 1) ⟨((t.val - 1) / 2 * 1024 + (y 0).val) / 16384, by omega⟩ ⟨((t.val - 1) / 2 * 1024 + (y 0).val) % 16384, by omega⟩
    ⟨(t.val - 1) % 2 * 2304 + (y 1).val, by omega⟩ (by dsimp only; omega) rfl _ (by dsimp only; omega) e1

end Cert.Kernel6Ideal.SwaProj
end
-- ==== Proof.RopeTable.lean ====
module
public import proofs.«01_k».proof.Proof.Gen.Kernel7Ideal.Frame
public import proofs.«01_k».proof.Proof.Gen.Reference7Ideal.Run
public import Idealize.ShloMosaic.Lib.Pipeline.ValueKit
public import proofs.«01_k».proof.Proof.Ix

/-!
# The rotary embedding's tables: what the two result arrays hold

Each grid point turns 2048 positions into angles and writes their cosines and their sines, the first half of the sines negated.
-/

@[expose] public section

set_option maxRecDepth 16384

noncomputable section

open Idealize.ShloMosaic Idealize.ShloMosaic.TcCoe Idealize.SL.Sem
open Idealize.ShloMosaic.Pipeline (Dat)
open Cert.Reference7Ideal (S2x16384x64 S2x16384x1 S1x1x64 S2x16384x128)

namespace Cert.Kernel7Ideal.RopeTable

open Cert.Kernel7Ideal Cert.Kernel7Ideal.Gen

variable (m : (ℓ : Loc nD τ sig) → Buf (Elt Ideal) ℓ)

/-- The frequencies, as both programs' host code computes them. -/
abbrev freqs : FVec Ideal S64 .f32 :=
  Host.powf (broadcastInDim S64 ![] Cert.Kernel7Ideal.Gen.bcast_S_S64 (constant S_ .f32 0x461C4000#32))
    (Host.divf (Host.negf (sitofp .f32 (iotaInDim S64 32 0))) (broadcastInDim S64 ![] Cert.Kernel7Ideal.Gen.bcast_S_S64 (constant S_ .f32 0x42800000#32)))

/-- The reference's angles over the positions and the frequencies, -/
abbrev REFang (Q : IVec S2x16384 32) (f : FVec Ideal S64 .f32) : FVec Ideal S2x16384x64 .f32 :=
  mulf (broadcastInDim S2x16384x64 ![0, 1, 2] Cert.Reference7Ideal.Gen.bcast_S2x16384x1_S2x16384x64_0_1_2
      (broadcastInDim S2x16384x1 ![0, 1] Cert.Reference7Ideal.Gen.bcast_S2x16384_S2x16384x1_0_1 (sitofp .f32 Q)))
    (broadcastInDim S2x16384x64 ![0, 1, 2] Cert.Reference7Ideal.Gen.bcast_S1x1x64_S2x16384x64_0_1_2
      (broadcastInDim S1x1x64 ![2] Cert.Reference7Ideal.Gen.bcast_S64_S1x1x64_2 f))

/-- its cosines -/
abbrev REFcos (Q : IVec S2x16384 32) (f : FVec Ideal S64 .f32) : FVec Ideal S32768x128 .f32 :=
  shapeCast _ (concatenate S2x16384x128 2 [⟨S2x16384x64, Host.cos (REFang Q f)⟩, ⟨S2x16384x64, Host.cos (REFang Q f)⟩]
    Cert.Reference7Ideal.Gen.concatenates_S2x16384x64_S2x16384x64_S2x16384x128_d2) Cert.Reference7Ideal.Gen.shapeCasts_S2x16384x128_S32768x128

/-- and its sines. -/
abbrev REFsin (Q : IVec S2x16384 32) (f : FVec Ideal S64 .f32) : FVec Ideal S32768x128 .f32 :=
  shapeCast _ (concatenate S2x16384x128 2 [⟨S2x16384x64, Host.negf (Host.sin (REFang Q f))⟩, ⟨S2x16384x64, Host.sin (REFang Q f)⟩]
    Cert.Reference7Ideal.Gen.concatenates_S2x16384x64_S2x16384x64_S2x16384x128_d2) Cert.Reference7Ideal.Gen.shapeCasts_S2x16384x128_S32768x128

/-- An entry's frequency. -/
def low (d : Fin 128) : Fin 64 := ⟨d.val % 64, Nat.mod_lt _ (by decide)⟩

/-- An angle. -/
def angle (Q : IVec S2x16384 32) (f : FVec Ideal S64 .f32) (i : Fin 2) (r : Fin 16384) (k : Fin 64) : EReal :=
  (FloatOps.sitofp (F := Ideal) .f32 (Q (ix2 i r)) : EReal) * f (ix1 k)

/-- The reference's angles at an index. -/
theorem ang_at (Q : IVec S2x16384 32) (f : FVec Ideal S64 .f32) (i : Fin 2) (r : Fin 16384) (k : Fin 64) :
    REFang Q f (ix3 i r k) = angle Q f i r k := by
  pointwise [REFang, angle]

/-- The reference's cosines at an index, -/
theorem cos_at (Q : IVec S2x16384 32) (f : FVec Ideal S64 .f32) (z : S32768x128.Idx) (i : Fin 2) (r : Fin 16384) (d : Fin 128)
    (h0 : (z 0).val = i.val * 16384 + r.val) (h1 : (z 1).val = d.val) :
    REFcos Q f z = FloatOps.cos (F := Ideal) (φ := .f32) (angle Q f i r (low d)) := by
  rw [← ang_at]
  unfold REFcos
  generalize REFang Q f = A
  pointwise
  split <;> exact congrArg (fun x => FloatOps.cos (F := Ideal) (φ := .f32) (A x)) (ix3_of_val (by dsimp only; omega) (by dsimp only; omega) (by unfold low; dsimp only; omega))

/-- and its sines. -/
theorem sin_at (Q : IVec S2x16384 32) (f : FVec Ideal S64 .f32) (z : S32768x128.Idx) (i : Fin 2) (r : Fin 16384) (d : Fin 128)
    (h0 : (z 0).val = i.val * 16384 + r.val) (h1 : (z 1).val = d.val) :
    REFsin Q f z = if d.val < 64 then -(FloatOps.sin (F := Ideal) (φ := .f32) (angle Q f i r (low d)) : EReal) else FloatOps.sin (F := Ideal) (φ := .f32) (angle Q f i r (low d)) := by
  rw [← ang_at]
  unfold REFsin
  generalize REFang Q f = A
  pointwise
  by_cases h : d.val < 64
  · rw [dif_pos (by omega), if_pos h]
    exact congrArg (fun x => -Ideal.sin (A x)) (ix3_of_val (by dsimp only; omega) (by dsimp only; omega) (by unfold low; dsimp only; omega))
  · rw [dif_neg (by omega), if_neg h]
    exact congrArg (fun x => Ideal.sin (A x)) (ix3_of_val (by dsimp only; omega) (by dsimp only; omega) (by unfold low; dsimp only; omega))

/-- The blocks the windows take at each grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The arrays the host prepares: the positions in a column -/
theorem V6 (c : Dev nD) : V m c main_v6 = shapeCast S32768x1 (m ((c : Thread nD τ).loc main_arg0) : IVec S2x16384 32) shapeCasts_S2x16384_S32768x1 := by
  unfold V
  simp only [hostOps0, StableHlo.TRef.binary, StableHlo.TRef.unary, StableHlo.TRef.nary, StableHlo.TRef.toBuf, StableHlo.TRef.ofBuf, cast_eq]
  after_results <;> rfl

/-- and the frequencies twice in a row. -/
theorem V8 (c : Dev nD) : V m c main_v8
    = shapeCast S1x128 (concatenate S128 0 [⟨S64, freqs⟩, ⟨S64, freqs⟩] concatenates_S64_S64_S128_d0) shapeCasts_S128_S1x128 := by
  unfold V
  simp only [hostOps0, StableHlo.TRef.binary, StableHlo.TRef.unary, StableHlo.TRef.nary, StableHlo.TRef.toBuf, StableHlo.TRef.ofBuf, cast_eq]
  after_results <;> rfl

/-- The column at an index, -/
theorem column_at (Q : IVec S2x16384 32) (z : S32768x1.Idx) (i : Fin 2) (r : Fin 16384) (h0 : (z 0).val = i.val * 16384 + r.val) :
    shapeCast S32768x1 Q shapeCasts_S2x16384_S32768x1 z = Q (ix2 i r) := by
  pointwise
  exact congrArg Q (ix2_of_val (by dsimp only; omega) (by dsimp only; omega))

/-- and the doubled frequencies. -/
theorem twice_at (f : FVec Ideal S64 .f32) (d : Fin 128) :
    shapeCast S1x128 (concatenate S128 0 [⟨S64, f⟩, ⟨S64, f⟩] concatenates_S64_S64_S128_d0) shapeCasts_S128_S1x128 (ix2 0 d) = f (ix1 (low d)) := by
  pointwise
  split <;> exact congrArg (fun k => f (ix1 k)) (Fin.ext (by unfold low; dsimp only; omega))

/-- A position at a grid point, -/
theorem read0 (c : Dev nD) (t : Fin cfg0.N) (a : Fin 2048) (i : Fin 2) (r : Fin 16384) (h : t.val * 2048 + a.val = i.val * 16384 + r.val) :
    (show IVec S2048x1 32 from iblk m c 0 t) (ix2 a 0) = (m ((c : Thread nD τ).loc main_arg0) : IVec S2x16384 32) (ix2 i r) := by
  refine Eq.trans ?_ (column_at _ (((View.whole main_v6).slice (win0_0.rect t)).emb (ix2 a 0 : S2048x1.Idx)) i r ?_)
  · rw [← V6]; rfl
  · blk_simp [idx t]; exact h

/-- a frequency, -/
theorem read1 (c : Dev nD) (t : Fin cfg0.N) (d : Fin 128) :
    (show FVec Ideal S1x128 .f32 from iblk m c 1 t) (ix2 0 d) = freqs (ix1 (low d)) := by
  refine Eq.trans ?_ (twice_at _ d)
  rw [← V8]
  refine congrArg (V m c main_v8 : FVec Ideal S1x128 .f32) ?_
  funext b; apply Fin.ext; fin_cases b <;> blk_simp [idx t]

/-- and their product: the angle, -/
theorem pay1_at (q : IVec S2048x1 32) (f : FVec Ideal S1x128 .f32) (a : Fin 2048) (d : Fin 128) :
    k0_pay1 (F := Ideal) q f (ix2 a d) = ((FloatOps.sitofp (F := Ideal) .f32 (q (ix2 a 0)) : EReal) * f (ix2 0 d) : EReal) := by
  pointwise [k0_pay1]

/-- and its cosine. -/
theorem pay2_at (q : IVec S2048x1 32) (f : FVec Ideal S1x128 .f32) (a : Fin 2048) (d : Fin 128) :
    k0_pay2 (F := Ideal) q f (ix2 a d) = FloatOps.cos (F := Ideal) (φ := .f32) (k0_pay1 (F := Ideal) q f (ix2 a d)) := rfl

/-- The kernel's test for the first half. -/
theorem below : ∀ d : Fin 128, IntOp.cmpi CmpIPredicate.slt (BitVec.ofNat 32 d.val) 64#32 = if d.val < 64 then 1#1 else 0#1 := by
  decide +kernel

/-- The angle's sine, negated in the first half. -/
theorem pay3_at (q : IVec S2048x1 32) (f : FVec Ideal S1x128 .f32) (a : Fin 2048) (d : Fin 128) :
    k0_pay3 (F := Ideal) q f (ix2 a d) = if d.val < 64 then -(FloatOps.sin (F := Ideal) (φ := .f32) (k0_pay1 (F := Ideal) q f (ix2 a d)) : EReal)
      else FloatOps.sin (F := Ideal) (φ := .f32) (k0_pay1 (F := Ideal) q f (ix2 a d)) := by
  unfold k0_pay3
  generalize k0_pay1 (F := Ideal) q f = A
  pointwise
  rw [below]
  by_cases h : d.val < 64
  · rw [if_pos h, if_pos h, zero_sub]; rfl
  · rw [if_neg h, if_neg h]; rfl

/-- The angle at a grid point. -/
theorem point1 (c : Dev nD) (t : Fin cfg0.N) (a : Fin 2048) (d : Fin 128) (i : Fin 2) (r : Fin 16384)
    (h : t.val * 2048 + a.val = i.val * 16384 + r.val) :
    k0_pay1 (F := Ideal) (iblk m c 0 t) (iblk m c 1 t) (ix2 a d)
      = angle (m ((c : Thread nD τ).loc main_arg0) : IVec S2x16384 32) freqs i r (low d) := by
  refine (pay1_at _ _ a d).trans ?_
  unfold angle
  exact congrArg₂ (fun x y => (FloatOps.sitofp (F := Ideal) .f32 x : EReal) * y) (read0 m c t a i r h) (read1 m c t d)

/-- The cosine written at a grid point is the reference's, -/
theorem point2 (c : Dev nD) (t : Fin cfg0.N) (y : S2048x128.Idx) (z : S32768x128.Idx)
    (e0 : (z 0).val = t.val * 2048 + (y 0).val) (e1 : (z 1).val = (y 1).val) :
    k0_pay2 (F := Ideal) (iblk m c 0 t) (iblk m c 1 t) y = REFcos (m ((c : Thread nD τ).loc main_arg0) : IVec S2x16384 32) freqs z := by
  have hz : (z 0).val < 32768 := (z 0).isLt
  have hy : y = ix2 (y 0) (y 1) := by
    funext b; fin_cases b <;> rfl
  refine ((congrArg (k0_pay2 (F := Ideal) (iblk m c 0 t) (iblk m c 1 t)) hy).trans (pay2_at _ _ (y 0) (y 1))).trans (Eq.trans ?_
    (cos_at _ _ z ⟨(z 0).val / 16384, by omega⟩ ⟨(z 0).val % 16384, by omega⟩ (y 1) (by dsimp only; omega) e1).symm)
  rw [point1 m c t (y 0) (y 1) ⟨(z 0).val / 16384, by omega⟩ ⟨(z 0).val % 16384, by omega⟩ (by dsimp only; omega)]

/-- and so is the sine. -/
theorem point3 (c : Dev nD) (t : Fin cfg0.N) (y : S2048x128.Idx) (z : S32768x128.Idx)
    (e0 : (z 0).val = t.val * 2048 + (y 0).val) (e1 : (z 1).val = (y 1).val) :
    k0_pay3 (F := Ideal) (iblk m c 0 t) (iblk m c 1 t) y = REFsin (m ((c : Thread nD τ).loc main_arg0) : IVec S2x16384 32) freqs z := by
  have hz : (z 0).val < 32768 := (z 0).isLt
  have hy : y = ix2 (y 0) (y 1) := by
    funext b; fin_cases b <;> rfl
  refine ((congrArg (k0_pay3 (F := Ideal) (iblk m c 0 t) (iblk m c 1 t)) hy).trans (pay3_at _ _ (y 0) (y 1))).trans (Eq.trans ?_
    (sin_at _ _ z ⟨(z 0).val / 16384, by omega⟩ ⟨(z 0).val % 16384, by omega⟩ (y 1) (by dsimp only; omega) e1).symm)
  rw [point1 m c t (y 0) (y 1) ⟨(z 0).val / 16384, by omega⟩ ⟨(z 0).val % 16384, by omega⟩ (by dsimp only; omega)]

/-- The result arrays after the run: the cosines -/
theorem final_cos (c : Dev nD) : (dats m 0 c).arrAt 2 cfg0.N = REFcos (m ((c : Thread nD τ).loc main_arg0) : IVec S2x16384 32) freqs := by
  refine (dats m 0 c).arrAt_eq_of_covers 2 _ (by decide +kernel) fun t hf y => ?_
  blk_simp
  rw [after0_2]
  frame_out
  exact point2 m c t y _ (by blk_simp [idx t]) (by blk_simp [idx t])

/-- and the sines. -/
theorem final_sin (c : Dev nD) : (dats m 0 c).arrAt 3 cfg0.N = REFsin (m ((c : Thread nD τ).loc main_arg0) : IVec S2x16384 32) freqs := by
  refine (dats m 0 c).arrAt_eq_of_covers 3 _ (by decide +kernel) fun t hf y => ?_
  blk_simp
  rw [after0_3]
  frame_out
  exact point3 m c t y _ (by blk_simp [idx t]) (by blk_simp [idx t])

/-- The run, with each result array after it. -/
theorem run (ρ : Dev nD → PrngReg) : θ_run defs (onTc (τ := τ) (main (F := Ideal))) ⟨m, fun _ => 0, ρ⟩ fun r => ∀ c : Dev nD,
      r.2.mem ((c : Thread nD τ).loc main_v9_0) = REFcos (m ((c : Thread nD τ).loc main_arg0) : IVec S2x16384 32) freqs
      ∧ r.2.mem ((c : Thread nD τ).loc main_v9_1) = REFsin (m ((c : Thread nD τ).loc main_arg0) : IVec S2x16384 32) freqs
      ∧ r.2.mem ((c : Thread nD τ).loc main_arg0) = m ((c : Thread nD τ).loc main_arg0) :=
  (θ_run defs _ _).mono (fun r h c => ⟨((h c).1 2).trans (final_cos m c), ((h c).1 3).trans (final_sin m c),
      ((h c).2 main_arg0 (Pipeline.mem_restRefs_of main_arg0 (by decide) (by decide))).trans (V_main_arg0 m c)⟩)
    (run_main m ρ)

end Cert.Kernel7Ideal.RopeTable
end
-- ==== Proof.lean ====
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Kernel5Ideal.Launch
public import proofs.«01_k».proof.Proof.Gen.Kernel5Ideal.Frame
public import proofs.«01_k».proof.Proof.Gen.Kernel5Ideal.Skeleton
public import proofs.«01_k».proof.Proof.Gen.Kernel5Ideal.Loops
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel7Ideal.Frame
public import proofs.«01_k».proof.Proof.Gen.Reference7Ideal.Run
public import proofs.«01_k».proof.Proof.SwaFrame
public import proofs.«01_k».proof.Proof.InFrame
public import proofs.«01_k».proof.Proof.InValue
public import proofs.«01_k».proof.Proof.MixValue
public import proofs.«01_k».proof.Proof.Ff1Value
public import proofs.«01_k».proof.Proof.Ff2Value
public import proofs.«01_k».proof.Proof.SwaProj
public import proofs.«01_k».proof.Proof.RopeTable
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The value claim of program 2: its result array is its reference's. -/
theorem value2 : algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · run_from Cert.Reference2Ideal.Value.run m' g'
    exact (Cert.Kernel2Ideal.Ff2.final m c).symm

/-- The value claim of program 3: its result array is its reference's. -/
theorem value3 : algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    exact (Cert.Kernel3Ideal.Ff1.final m c).symm

/-- The value claim of program 4: its result array is its reference's. -/
theorem value4 : algebraic_Kernel4Ideal_Reference4Ideal (hKernel4Ideal := Cert.Kernel4Ideal.Gen.facts) (hReference4Ideal := Cert.Reference4Ideal.Gen.facts) := by
  pair_intro
  · run_from Cert.Kernel4Ideal.Value.run_blocks m g
  · run_from Cert.Reference4Ideal.Value.run m' g'
    exact (Cert.Kernel4Ideal.Mix.final m c).symm

/-- The value claim of program 5: its three result arrays are its reference's. -/
theorem value5 : algebraic_Kernel5Ideal_Reference5Ideal (hKernel5Ideal := Cert.Kernel5Ideal.Gen.facts) (hReference5Ideal := Cert.Reference5Ideal.Gen.facts) := by
  pair_intro
  · run_from Cert.Kernel5Ideal.Body.run_blocks m g
  · run_from Cert.Reference5Ideal.Value.run m' g'
    · rw [(hagree c).2.2]
      exact (Cert.Kernel5Ideal.InProj.final_main m c).symm
    · exact (Cert.Kernel5Ideal.InProj.final_ab m c).symm
    · exact (Cert.Kernel5Ideal.InProj.final_h m c).symm

/-- The value claim of program 6: its result array is its reference's. -/
theorem value6 : algebraic_Kernel6Ideal_Reference6Ideal (hKernel6Ideal := Cert.Kernel6Ideal.Gen.facts) (hReference6Ideal := Cert.Reference6Ideal.Gen.facts) := by
  pair_intro
  · run_from Cert.Kernel6Ideal.Value.run_blocks m g
  · run_from Cert.Reference6Ideal.Value.run m' g'
    refine Eq.trans ?_ (Cert.Kernel6Ideal.SwaProj.final m c).symm
    obtain ⟨e0, e1, e2, e3, e4, e5⟩ := hagree c
    rw [← e0, ← e1, ← e2, ← e3, ← e4, ← e5]
    unfold Cert.Reference6Ideal.Value.res_main_v69
    rfl

/-- The value claim of program 7: its two result arrays are its reference's. -/
theorem value7 : algebraic_Kernel7Ideal_Reference7Ideal (hKernel7Ideal := Cert.Kernel7Ideal.Gen.facts) (hReference7Ideal := Cert.Reference7Ideal.Gen.facts) := by
  pair_intro
  · run_from Cert.Kernel7Ideal.RopeTable.run m g
  · run_from Cert.Reference7Ideal.Value.run m' g'
    · rw [← hagree c]
    · rw [← hagree c]

/-- Every claim of the certificate. -/
theorem claim : Cert.Claim := ⟨Cert.Kernel.Gen.facts,
  Cert.KernelIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  frame_kernel,
  fun m ρ _ => Cert.KernelIdeal.Body.frame m ρ,
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, sem_eq_zero_of_no_sems (by decide) r.2⟩)
    (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, sem_eq_zero_of_no_sems (by decide) r.2⟩)
    (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono (fun r h => ⟨fun c => (h c).2, sem_eq_zero_of_no_sems (by decide) r.2⟩)
    (Cert.Reference4Ideal.Value.run m ρ),
  in_frame_kernel,
  fun m ρ _ => Cert.Kernel5Ideal.Body.frame m ρ,
  fun m ρ _ => (θ_run Cert.Reference5Ideal.defs _ _).mono (fun r h => ⟨fun c => (h c).2.2.2, sem_eq_zero_of_no_sems (by decide) r.2⟩)
    (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono (fun r h => ⟨fun c => (h c).2, sem_eq_zero_of_no_sems (by decide) r.2⟩)
    (Cert.Reference6Ideal.Value.run m ρ),
  fun m ρ _ => Cert.Kernel7.Gen.frame m ρ,
  fun m ρ _ => Cert.Kernel7Ideal.Gen.frame m ρ,
  fun m ρ _ => (θ_run Cert.Reference7Ideal.defs _ _).mono (fun r h => ⟨fun c => (h c).2.2, sem_eq_zero_of_no_sems (by decide) r.2⟩)
    (Cert.Reference7Ideal.Value.run m ρ),
  trivial,
  trivial,
  value2,
  trivial,
  value3,
  trivial,
  value4,
  trivial,
  value5,
  trivial,
  value6,
  trivial,
  value7⟩

end Cert.Proof

end
